-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_start_fits [hPre_start_fits : Cert.Pre_start_fits.Facts] (m : (ℓ : Loc Cert.KernelIdeal.nD Cert.KernelIdeal.τ Cert.KernelIdeal.sig) → Buf (Elt Ideal) ℓ) : Prop :=
  ∀ c : Dev Cert.KernelIdeal.nD,
    (Cert.Pre_start_fits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_start_fits [hPre_start_fits : Cert.Pre_start_fits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_start_fits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_start_fits [hKernelIdeal : Cert.KernelIdeal.Facts] [hPre_start_fits : Cert.Pre_start_fits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_start_fits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_start_fits [hReferenceIdeal : Cert.ReferenceIdeal.Facts] [hPre_start_fits : Cert.Pre_start_fits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_start_fits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_start_fits [hKernelIdeal : Cert.KernelIdeal.Facts] [hReferenceIdeal : Cert.ReferenceIdeal.Facts] [hPre_start_fits : Cert.Pre_start_fits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_start_fits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_start_fits : Cert.Pre_start_fits.Facts),
    quiescent_Kernel (hKernel := hKernel)
    ∧ quiescent_KernelIdeal (hKernelIdeal := hKernelIdeal)
    ∧ quiescent_KernelIdeal_pre_start_fits (hKernelIdeal := hKernelIdeal) (hPre_start_fits := hPre_start_fits)
    ∧ quiescent_ReferenceIdeal (hReferenceIdeal := hReferenceIdeal)
    ∧ quiescent_ReferenceIdeal_pre_start_fits (hReferenceIdeal := hReferenceIdeal) (hPre_start_fits := hPre_start_fits)
    ∧ preserves_Kernel_KernelIdeal
    ∧ algebraic_KernelIdeal_ReferenceIdeal_pre_start_fits (hKernelIdeal := hKernelIdeal) (hReferenceIdeal := hReferenceIdeal) (hPre_start_fits := hPre_start_fits)
-- ==== Pre_start_fits.lean ====
abbrev S1x256x50304 : Shape := ⟨3, ![1, 256, 50304]⟩
abbrev S1x256x393 : Shape := ⟨3, ![1, 256, 393]⟩
abbrev S1x256x2560 : Shape := ⟨3, ![1, 256, 2560]⟩
abbrev S1x256 : Shape := ⟨2, ![1, 256]⟩
abbrev S50304x2560 : Shape := ⟨2, ![50304, 2560]⟩
abbrev S50304 : Shape := ⟨1, ![50304]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S1x256x50304 .fp8e5m2) (main_arg1 : FVec F S1x256x393 .f32) (main_arg2 : FVec F S1x256x2560 .fp8e4m3) (main_arg3 : FVec F S1x256 .f32) (main_arg4 : IVec S50304x2560 8) (main_arg5 : FVec F S50304 .f32) (main_arg6 : IVec S1x256 32) (main_arg7 : IVec S1 32) (main_arg8 : FVec F S1x256x2560 .bf16) : IVec S1 1 :=
  let main_c : IVec S_ 32 := constantI S_ 32 2147433343#32
  let main_v0 : IVec S1 32 := broadcastInDim S1 ![] bcast_S_S1 main_c
  let main_v1 : IVec S1 1 := cmpi .sle main_arg7 main_v0
  main_v1
-- ==== Kernel.lean ====
abbrev S1x256x50304 : Shape := ⟨3, ![1, 256, 50304]⟩
abbrev S1x256x393 : Shape := ⟨3, ![1, 256, 393]⟩
abbrev S1x256x2560 : Shape := ⟨3, ![1, 256, 2560]⟩
abbrev S1x256 : Shape := ⟨2, ![1, 256]⟩
abbrev S50304x2560 : Shape := ⟨2, ![50304, 2560]⟩
abbrev S50304 : Shape := ⟨1, ![50304]⟩
abbrev S1 : Shape := ⟨1, ![1]⟩
abbrev S256 : Shape := ⟨1, ![256]⟩
abbrev S256x50304 : Shape := ⟨2, ![256, 50304]⟩
abbrev S256x393 : Shape := ⟨2, ![256, 393]⟩
abbrev S256x2560 : Shape := ⟨2, ![256, 2560]⟩
abbrev S256x1 : Shape := ⟨2, ![256, 1]⟩
abbrev S131x1x384 : Shape := ⟨3, ![131, 1, 384]⟩
abbrev S256x384 : Shape := ⟨2, ![256, 384]⟩
abbrev S384x2560 : Shape := ⟨2, ![384, 2560]⟩
abbrev S1x1x384 : Shape := ⟨3, ![1, 1, 384]⟩
abbrev S256x512 : Shape := ⟨2, ![256, 512]⟩
abbrev S131 : Shape := ⟨1, ![131]⟩
abbrev S256x128 : Shape := ⟨2, ![256, 128]⟩
abbrev S256x128x1 : Shape := ⟨3, ![256, 128, 1]⟩
abbrev S384x256 : Shape := ⟨2, ![384, 256]⟩
abbrev S1x384 : Shape := ⟨2, ![1, 384]⟩
abbrev S1x2560 : Shape := ⟨2, ![1, 2560]⟩

abbrev nBuf : Space → Nat
  | .hbm => 18
  | .vmem => 17
  | .smem => 4
  | _ => 0

abbrev bufTy : (tb : Table) → Fin (tcTables nBuf tb) → BufTy
  | .hbm, ⟨0, _⟩ => ⟨S1x256x50304, .fp8e5m2⟩
  | .hbm, ⟨1, _⟩ => ⟨S1x256x393, .f32⟩
  | .hbm, ⟨2, _⟩ => ⟨S1x256x2560, .fp8e4m3⟩
  | .hbm, ⟨3, _⟩ => ⟨S1x256, .f32⟩
  | .hbm, ⟨4, _⟩ => ⟨S50304x2560, .i8⟩
  | .hbm, ⟨5, _⟩ => ⟨S50304, .f32⟩
  | .hbm, ⟨6, _⟩ => ⟨S1x256, .i32⟩
  | .hbm, ⟨7, _⟩ => ⟨S1, .i32⟩
  | .hbm, ⟨8, _⟩ => ⟨S1x256x2560, .bf16⟩
  | .hbm, ⟨9, _⟩ => ⟨S256, .i32⟩
  | .hbm, ⟨10, _⟩ => ⟨S256x50304, .fp8e5m2⟩
  | .hbm, ⟨11, _⟩ => ⟨S256x393, .f32⟩
  | .hbm, ⟨12, _⟩ => ⟨S256x2560, .fp8e4m3⟩
  | .hbm, ⟨13, _⟩ => ⟨S256x1, .f32⟩
  | .hbm, ⟨14, _⟩ => ⟨S131x1x384, .f32⟩
  | .hbm, ⟨15, _⟩ => ⟨S256x2560, .bf16⟩
  | .hbm, ⟨16, _⟩ => ⟨S50304x2560, .f32⟩
  | .hbm, ⟨17, _⟩ => ⟨S256x2560, .bf16⟩
  | .local _ .vmem, ⟨0, _⟩ => ⟨S256x384, .fp8e5m2⟩
  | .local _ .vmem, ⟨1, _⟩ => ⟨S256x384, .fp8e5m2⟩
  | .local _ .vmem, ⟨2, _⟩ => ⟨S256x393, .f32⟩
  | .local _ .vmem, ⟨3, _⟩ => ⟨S256x2560, .fp8e4m3⟩
  | .local _ .vmem, ⟨4, _⟩ => ⟨S256x1, .f32⟩
  | .local _ .vmem, ⟨5, _⟩ => ⟨S384x2560, .i8⟩
  | .local _ .vmem, ⟨6, _⟩ => ⟨S384x2560, .i8⟩
  | .local _ .vmem, ⟨7, _⟩ => ⟨S1x1x384, .f32⟩
  | .local _ .vmem, ⟨8, _⟩ => ⟨S1x1x384, .f32⟩
  | .local _ .vmem, ⟨9, _⟩ => ⟨S256x2560, .bf16⟩
  | .local _ .vmem, ⟨10, _⟩ => ⟨S384x2560, .f32⟩
  | .local _ .vmem, ⟨11, _⟩ => ⟨S384x2560, .f32⟩
  | .local _ .vmem, ⟨12, _⟩ => ⟨S256x2560, .bf16⟩
  | .local _ .vmem, ⟨13, _⟩ => ⟨S256x512, .f32⟩
  | .local _ .vmem, ⟨14, _⟩ => ⟨S256x2560, .bf16⟩
  | .local _ .vmem, ⟨15, _⟩ => ⟨S256x2560, .f32⟩
  | .local _ .vmem, ⟨16, _⟩ => ⟨S256x2560, .f32⟩
  | .local _ .smem, ⟨0, _⟩ => ⟨S256, .i32⟩
  | .local _ .smem, ⟨1, _⟩ => ⟨S1, .i32⟩
  | .local _ .smem, ⟨2, _⟩ => ⟨S131, .i32⟩
  | .local _ .smem, ⟨3, _⟩ => ⟨S256, .i32⟩
  | _, _ => ⟨S1x256x50304, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg6_1 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_stg0_0 : Ref sig .tc := ⟨.smem, 0, rfl⟩
abbrev cc0_stg1_0 : Ref sig .tc := ⟨.smem, 1, rfl⟩
abbrev cc0_scratch4 : Ref sig .tc := ⟨.smem, 2, rfl⟩
abbrev cc0_scratch5 : Ref sig .tc := ⟨.smem, 3, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem9_1 : DmaSem sig := 13
abbrev cc0_sem10_0 : DmaSem sig := 14

abbrev nD : Nat := 1
abbrev τ : Topo := Topo.v7x

variable {F : FTy → Type} [FloatOps F]

abbrev grid0 : Pipeline.Grid := ⟨1, ![131], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_91 : BitVec 32 := 0#32
  let c131_i32 : BitVec 32 := 131#32
  let v199 : BitVec 32 := Scalar.addi c0_i32_91 c131_i32
  let c1_i32_92 : BitVec 32 := 1#32
  ⟨c0_i32_91, v199, c1_i32_92⟩
def k0_off1 (k0_t1 : Fin k0_t1_loop.trips) : Fin 1 → Nat :=
  let c0_i32_91 : BitVec 32 := 0#32
  let c1_i32_92 : BitVec 32 := 1#32
  let arg18 : BitVec 32 := Scf.iv c0_i32_91 c1_i32_92 k0_t1
  let v201 : Index := Scalar.indexCast arg18
  ![v201.toNat]
@[reducible] def k0_t2_loop : Scf.Loop 32 :=
  let c0_i32_94 : BitVec 32 := 0#32
  let c256_i32 : BitVec 32 := 256#32
  let v200 : BitVec 32 := Scalar.addi c0_i32_94 c256_i32
  let c1_i32_95 : BitVec 32 := 1#32
  ⟨c0_i32_94, v200, c1_i32_95⟩
def k0_off2 (k0_t2 : Fin k0_t2_loop.trips) : Fin 1 → Nat :=
  let c255_i32 : BitVec 32 := 255#32
  let c0_i32_94 : BitVec 32 := 0#32
  let c1_i32_95 : BitVec 32 := 1#32
  let arg18 : BitVec 32 := Scf.iv c0_i32_94 c1_i32_95 k0_t2
  let v201 : BitVec 32 := Scalar.subi c255_i32 arg18
  let v202 : Index := Scalar.indexCast v201
  ![v202.toNat]
def k0_off3 (v198 : BitVec 32) (v203 : BitVec 32) : Fin 1 → Nat :=
  let v204 : BitVec 32 := Scalar.subi v203 v198
  let c0_i32_99 : BitVec 32 := 0#32
  let v211 : BitVec 1 := Scalar.cmpi .sgt v204 c0_i32_99
  let v212 : BitVec 32 := Scalar.extui v211
  let c0_i32_100 : BitVec 32 := 0#32
  let v213 : BitVec 1 := Scalar.cmpi .slt v204 c0_i32_100
  let v214 : BitVec 32 := Scalar.extui v213
  let v215 : BitVec 32 := Scalar.subi v212 v214
  let c384_i32 : BitVec 32 := 384#32
  let c0_i32_101 : BitVec 32 := 0#32
  let v216 : BitVec 1 := Scalar.cmpi .sgt c384_i32 c0_i32_101
  let v217 : BitVec 32 := Scalar.extui v216
  let c0_i32_102 : BitVec 32 := 0#32
  let v218 : BitVec 1 := Scalar.cmpi .slt c384_i32 c0_i32_102
  let v219 : BitVec 32 := Scalar.extui v218
  let v220 : BitVec 32 := Scalar.subi v217 v219
  let v221 : BitVec 1 := Scalar.cmpi .ne v215 v220
  let v222 : BitVec 32 := Scalar.remsi v204 c384_i32
  let c0_i32_103 : BitVec 32 := 0#32
  let v223 : BitVec 1 := Scalar.cmpi .ne v222 c0_i32_103
  let v224 : BitVec 1 := Scalar.andi v221 v223
  let v210 : BitVec 32 := Scalar.divsi v204 c384_i32
  let c1_i32_104 : BitVec 32 := 1#32
  let v225 : BitVec 32 := Scalar.subi v210 c1_i32_104
  let v226 : BitVec 32 := Scalar.select v224 v225 v210
  let v227 : Index := Scalar.indexCast v226
  ![v227.toNat]
def k0_cond2 (v198 : BitVec 32) (v203 : BitVec 32) : BitVec 1 :=
  let v204 : BitVec 32 := Scalar.subi v203 v198
  let c0_i32_97 : BitVec 32 := 0#32
  let v205 : BitVec 1 := Scalar.cmpi .sge v204 c0_i32_97
  let c50304_i32 : BitVec 32 := 50304#32
  let v206 : BitVec 1 := Scalar.cmpi .slt v204 c50304_i32
  let v207 : BitVec 1 := Scalar.andi v205 v206
  let v208 : BitVec 32 := Scalar.extui v207
  let c0_i32_98 : BitVec 32 := 0#32
  let v209 : BitVec 1 := Scalar.cmpi .ne v208 c0_i32_98
  v209

def k0_chk1 (i : grid0.Coords) (v198 : BitVec 32) (v203 : BitVec 32) : Prop :=
  (∀ (k0_h1 : k0_cond1 i = 1#1), ∀ (k0_h2 : k0_cond2 v198 v203 = 1#1), ∀ a, (k0_off3 v198 v203) a + S1.size a ≤ S131.size a)
theorem k0_off3_inb : ∀ (i : grid0.Coords) (v198 : BitVec 32) (v203 : BitVec 32) (k0_hw1 : k0_chk1 i v198 v203), ∀ (k0_h1 : k0_cond1 i = 1#1), ∀ (k0_h2 : k0_cond2 v198 v203 = 1#1), ∀ a, (k0_off3 v198 v203) a + S1.size a ≤ S131.size a := fun i v198 v203 k0_hw1 k0_h1 k0_h2 => k0_hw1 k0_h1 k0_h2

def k0_off4 (k0_t2 : Fin k0_t2_loop.trips) : Fin 1 → Nat :=
  let c255_i32 : BitVec 32 := 255#32
  let c0_i32_94 : BitVec 32 := 0#32
  let c1_i32_95 : BitVec 32 := 1#32
  let arg18 : BitVec 32 := Scf.iv c0_i32_94 c1_i32_95 k0_t2
  let v201 : BitVec 32 := Scalar.subi c255_i32 arg18
  let v229 : Index := Scalar.indexCast v201
  ![v229.toNat]
def k0_mult1 (i : grid0.Coords) : BitVec 32 :=
  let arg0 : BitVec 32 := BitVec.ofNat 32 (i 0).val
  let c3_i32 : BitVec 32 := 3#32
  let v4 : BitVec 32 := Scalar.muli arg0 c3_i32
  let c0_i32_2 : BitVec 32 := 0#32
  let v5 : BitVec 32 := Scalar.addi v4 c0_i32_2
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c128_i32 : BitVec 32 := 128#32
  let c0_i32_5 : BitVec 32 := 0#32
  let v12 : BitVec 1 := Scalar.cmpi .sgt c128_i32 c0_i32_5
  let v13 : BitVec 32 := Scalar.extui v12
  let c0_i32_6 : BitVec 32 := 0#32
  let v14 : BitVec 1 := Scalar.cmpi .slt c128_i32 c0_i32_6
  let v15 : BitVec 32 := Scalar.extui v14
  let v16 : BitVec 32 := Scalar.subi v13 v15
  let v17 : BitVec 1 := Scalar.cmpi .ne v11 v16
  let v18 : BitVec 32 := Scalar.remsi v5 c128_i32
  let c0_i32_7 : BitVec 32 := 0#32
  let v19 : BitVec 1 := Scalar.cmpi .ne v18 c0_i32_7
  let v20 : BitVec 1 := Scalar.andi v17 v19
  let v6 : BitVec 32 := Scalar.divsi v5 c128_i32
  let c1_i32 : BitVec 32 := 1#32
  let v21 : BitVec 32 := Scalar.subi v6 c1_i32
  let v22 : BitVec 32 := Scalar.select v20 v21 v6
  let c128_i32_8 : BitVec 32 := 128#32
  let v23 : BitVec 32 := Scalar.muli v22 c128_i32_8
  v23
def k0_off5 (i : grid0.Coords) (c0_i32_2 : BitVec 32) : Fin 2 → Nat :=
  let c0 : Index := 0#32
  let arg0 : BitVec 32 := BitVec.ofNat 32 (i 0).val
  let c3_i32 : BitVec 32 := 3#32
  let v4 : BitVec 32 := Scalar.muli arg0 c3_i32
  let v5 : BitVec 32 := Scalar.addi v4 c0_i32_2
  let c0_i32_3 : BitVec 32 := 0#32
  let v7 : BitVec 1 := Scalar.cmpi .sgt v5 c0_i32_3
  let v8 : BitVec 32 := Scalar.extui v7
  let c0_i32_4 : BitVec 32 := 0#32
  let v9 : BitVec 1 := Scalar.cmpi .slt v5 c0_i32_4
  let v10 : BitVec 32 := Scalar.extui v9
  let v11 : BitVec 32 := Scalar.subi v8 v10
  let c128_i32 : BitVec 32 := 128#32
  let c0_i32_5 : BitVec 32 := 0#32
  let v12 : BitVec 1 := Scalar.cmpi .sgt c128_i32 c0_i32_5
  let v13 : BitVec 32 := Scalar.extui v12
  let c0_i32_6 : BitVec 32 := 0#32
  let v14 : BitVec 1 := Scalar.cmpi .slt c128_i32 c0_i32_6
  let v15 : BitVec 32 := Scalar.extui v14
  let v16 : BitVec 32 := Scalar.subi v13 v15
  let v17 : BitVec 1 := Scalar.cmpi .ne v11 v16
  let v18 : BitVec 32 := Scalar.remsi v5 c128_i32
  let c0_i32_7 : BitVec 32 := 0#32
  let v19 : BitVec 1 := Scalar.cmpi .ne v18 c0_i32_7
  let v20 : BitVec 1 := Scalar.andi v17 v19
  let v6 : BitVec 32 := Scalar.divsi v5 c128_i32
  let c1_i32 : BitVec 32 := 1#32
  let v21 : BitVec 32 := Scalar.subi v6 c1_i32
  let v22 : BitVec 32 := Scalar.select v20 v21 v6
  let c128_i32_8 : BitVec 32 := 128#32
  let v23 : BitVec 32 := Scalar.muli v22 c128_i32_8
  let v24 : BitVec 32 := v23
  let v25 : Index := Scalar.indexCast v24
  ![0, v25.toNat]
def k0_mult2 (i : grid0.Coords) : BitVec 32 :=
  let arg0 : BitVec 32 := BitVec.ofNat 32 (i 0).val
  let c3_i32_19 : BitVec 32 := 3#32
  let v52 : BitVec 32 := Scalar.muli arg0 c3_i32_19
  let c1_i32_20 : BitVec 32 := 1#32
  let v53 : BitVec 32 := Scalar.addi v52 c1_i32_20
  let c0_i32_22 : BitVec 32 := 0#32
  let v55 : BitVec 1 := Scalar.cmpi .sgt v53 c0_i32_22
  let v56 : BitVec 32 := Scalar.extui v55
  let c0_i32_23 : BitVec 32 := 0#32
  let v57 : BitVec 1 := Scalar.cmpi .slt v53 c0_i32_23
  let v58 : BitVec 32 := Scalar.extui v57
  let v59 : BitVec 32 := Scalar.subi v56 v58
  let c128_i32_21 : BitVec 32 := 128#32
  let c0_i32_24 : BitVec 32 := 0#32
  let v60 : BitVec 1 := Scalar.cmpi .sgt c128_i32_21 c0_i32_24
  let v61 : BitVec 32 := Scalar.extui v60
  let c0_i32_25 : BitVec 32 := 0#32
  let v62 : BitVec 1 := Scalar.cmpi .slt c128_i32_21 c0_i32_25
  let v63 : BitVec 32 := Scalar.extui v62
  let v64 : BitVec 32 := Scalar.subi v61 v63
  let v65 : BitVec 1 := Scalar.cmpi .ne v59 v64
  let v66 : BitVec 32 := Scalar.remsi v53 c128_i32_21
  let c0_i32_26 : BitVec 32 := 0#32
  let v67 : BitVec 1 := Scalar.cmpi .ne v66 c0_i32_26
  let v68 : BitVec 1 := Scalar.andi v65 v67
  let v54 : BitVec 32 := Scalar.divsi v53 c128_i32_21
  let c1_i32_27 : BitVec 32 := 1#32
  let v69 : BitVec 32 := Scalar.subi v54 c1_i32_27
  let v70 : BitVec 32 := Scalar.select v68 v69 v54
  let c128_i32_28 : BitVec 32 := 128#32
  let v71 : BitVec 32 := Scalar.muli v70 c128_i32_28
  v71
def k0_mult3 (i : grid0.Coords) : BitVec 32 :=
  let arg0 : BitVec 32 := BitVec.ofNat 32 (i 0).val
  let c3_i32_39 : BitVec 32 := 3#32
  let v100 : BitVec 32 := Scalar.muli arg0 c3_i32_39
  let c2_i32 : BitVec 32 := 2#32
  let v101 : BitVec 32 := Scalar.addi v100 c2_i32
  let c0_i32_41 : BitVec 32 := 0#32
  let v103 : BitVec 1 := Scalar.cmpi .sgt v101 c0_i32_41
  let v104 : BitVec 32 := Scalar.extui v103
  let c0_i32_42 : BitVec 32 := 0#32
  let v105 : BitVec 1 := Scalar.cmpi .slt v101 c0_i32_42
  let v106 : BitVec 32 := Scalar.extui v105
  let v107 : BitVec 32 := Scalar.subi v104 v106
  let c128_i32_40 : BitVec 32 := 128#32
  let c0_i32_43 : BitVec 32 := 0#32
  let v108 : BitVec 1 := Scalar.cmpi .sgt c128_i32_40 c0_i32_43
  let v109 : BitVec 32 := Scalar.extui v108
  let c0_i32_44 : BitVec 32 := 0#32
  let v110 : BitVec 1 := Scalar.cmpi .slt c128_i32_40 c0_i32_44
  let v111 : BitVec 32 := Scalar.extui v110
  let v112 : BitVec 32 := Scalar.subi v109 v111
  let v113 : BitVec 1 := Scalar.cmpi .ne v107 v112
  let v114 : BitVec 32 := Scalar.remsi v101 c128_i32_40
  let c0_i32_45 : BitVec 32 := 0#32
  let v115 : BitVec 1 := Scalar.cmpi .ne v114 c0_i32_45
  let v116 : BitVec 1 := Scalar.andi v113 v115
  let v102 : BitVec 32 := Scalar.divsi v101 c128_i32_40
  let c1_i32_46 : BitVec 32 := 1#32
  let v117 : BitVec 32 := Scalar.subi v102 c1_i32_46
  let v118 : BitVec 32 := Scalar.select v116 v117 v102
  let c128_i32_47 : BitVec 32 := 128#32
  let v119 : BitVec 32 := Scalar.muli v118 c128_i32_47
  v119
def k0_off6 (i : grid0.Coords) : Fin 1 → Nat :=
  let arg0 : BitVec 32 := BitVec.ofNat 32 (i 0).val
  let v166 : Index := Scalar.indexCast arg0
  ![v166.toNat]
def k0_off7 (arg18 : BitVec 32) : Fin 1 → Nat :=
  let v172 : Index := Scalar.indexCast arg18
  ![v172.toNat]

def k0_off8 (i : grid0.Coords) (v173 : BitVec 32) (v174 : BitVec 32) : Fin 2 → Nat :=
  let v175 : BitVec 32 := Scalar.subi v173 v174
  let arg0 : BitVec 32 := BitVec.ofNat 32 (i 0).val
  let c384_i32 : BitVec 32 := 384#32
  let v176 : BitVec 32 := Scalar.muli arg0 c384_i32
  let v177 : BitVec 32 := Scalar.subi v175 v176
  let v178 : Index := Scalar.indexCast v177
  let c0_74 : Index := 0#32
  ![v178.toNat, 0]

def k0_chk3 (i : grid0.Coords) (v173 : BitVec 32) (v174 : BitVec 32) : Prop :=
  (∀ a, (k0_off8 i v173 v174) a + S1x2560.size a ≤ S384x2560.size a)
theorem k0_off8_inb : ∀ (i : grid0.Coords) (v173 : BitVec 32) (v174 : BitVec 32) (k0_hw3 : k0_chk3 i v173 v174), ∀ a, (k0_off8 i v173 v174) a + S1x2560.size a ≤ S384x2560.size a := fun i v173 v174 k0_hw3 => k0_hw3

def k0_off9 (arg18 : BitVec 32) : Fin 2 → Nat :=
  let v181 : Index := Scalar.indexCast arg18
  let c0_75 : Index := 0#32
  ![v181.toNat, 0]
def k0_off10 (arg18 : BitVec 32) : Fin 1 → Nat :=
  let v186 : Index := Scalar.indexCast arg18
  ![v186.toNat]

def k0_chk2 (arg18 : BitVec 32) : Prop :=
  (∀ a, (k0_off7 arg18) a + S1.size a ≤ S256.size a) ∧
  (∀ a, (k0_off9 arg18) a + S1x2560.size a ≤ S256x2560.size a) ∧
  (∀ a, (k0_off10 arg18) a + S1.size a ≤ S256.size a)
theorem k0_off7_inb : ∀ (arg18 : BitVec 32) (k0_hw2 : k0_chk2 arg18), ∀ a, (k0_off7 arg18) a + S1.size a ≤ S256.size a := fun arg18 k0_hw2 => k0_hw2.1
theorem k0_off9_inb : ∀ (arg18 : BitVec 32) (k0_hw2 : k0_chk2 arg18), ∀ a, (k0_off9 arg18) a + S1x2560.size a ≤ S256x2560.size a := fun arg18 k0_hw2 => k0_hw2.2.1
theorem k0_off10_inb : ∀ (arg18 : BitVec 32) (k0_hw2 : k0_chk2 arg18), ∀ a, (k0_off10 arg18) a + S1.size a ≤ S256.size a := fun arg18 k0_hw2 => k0_hw2.2.2

def k0_cond3 (i : grid0.Coords) : BitVec 1 :=
  let arg0 : BitVec 32 := BitVec.ofNat 32 (i 0).val
  let c130_i32 : BitVec 32 := 130#32
  let v169 : BitVec 1 := Scalar.cmpi .eq arg0 c130_i32
  let v170 : BitVec 32 := Scalar.extui v169
  let c0_i32_72 : BitVec 32 := 0#32
  let v171 : BitVec 1 := Scalar.cmpi .ne v170 c0_i32_72
  v171

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S256 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x384 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x393 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2560 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S384x2560 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S256x2560 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S384x2560 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S256x2560 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S1x256x50304 : Shape := ⟨3, ![1, 256, 50304]⟩
abbrev S1x256x393 : Shape := ⟨3, ![1, 256, 393]⟩
abbrev S1x256x2560 : Shape := ⟨3, ![1, 256, 2560]⟩
abbrev S1x256 : Shape := ⟨2, ![1, 256]⟩
abbrev S50304x2560 : Shape := ⟨2, ![50304, 2560]⟩
abbrev S50304 : Shape := ⟨1, ![50304]⟩
abbrev S1 : Shape := ⟨1, ![1]⟩
abbrev S1x256x393x128 : Shape := ⟨4, ![1, 256, 393, 128]⟩
abbrev S1x256x393x1 : Shape := ⟨4, ![1, 256, 393, 1]⟩
abbrev S1x256x1 : Shape := ⟨3, ![1, 256, 1]⟩
abbrev S_ : Shape := ⟨0, ![]⟩
abbrev S256 : Shape := ⟨1, ![256]⟩
abbrev S256x2560 : Shape := ⟨2, ![256, 2560]⟩
abbrev S256x1 : Shape := ⟨2, ![256, 1]⟩
abbrev S50304x1 : Shape := ⟨2, ![50304, 1]⟩

abbrev nBuf : Space → Nat
  | .hbm => 56
  | .vmem => 6
  | .smem => 0
  | _ => 0

abbrev bufTy : (tb : Table) → Fin (tcTables nBuf tb) → BufTy
  | .hbm, ⟨0, _⟩ => ⟨S1x256x50304, .fp8e5m2⟩
  | .hbm, ⟨1, _⟩ => ⟨S1x256x393, .f32⟩
  | .hbm, ⟨2, _⟩ => ⟨S1x256x2560, .fp8e4m3⟩
  | .hbm, ⟨3, _⟩ => ⟨S1x256, .f32⟩
  | .hbm, ⟨4, _⟩ => ⟨S50304x2560, .i8⟩
  | .hbm, ⟨5, _⟩ => ⟨S50304, .f32⟩
  | .hbm, ⟨6, _⟩ => ⟨S1x256, .i32⟩
  | .hbm, ⟨7, _⟩ => ⟨S1, .i32⟩
  | .hbm, ⟨8, _⟩ => ⟨S1x256x2560, .bf16⟩
  | .hbm, ⟨9, _⟩ => ⟨S1x256x50304, .bf16⟩
  | .hbm, ⟨10, _⟩ => ⟨S1x256x2560, .bf16⟩
  | .hbm, ⟨11, _⟩ => ⟨S50304x2560, .bf16⟩
  | .hbm, ⟨12, _⟩ => ⟨S1x256x393x128, .bf16⟩
  | .hbm, ⟨13, _⟩ => ⟨S1x256x393, .bf16⟩
  | .hbm, ⟨14, _⟩ => ⟨S1x256x393x1, .bf16⟩
  | .hbm, ⟨15, _⟩ => ⟨S1x256x393x128, .bf16⟩
  | .hbm, ⟨16, _⟩ => ⟨S1x256x393x128, .bf16⟩
  | .hbm, ⟨17, _⟩ => ⟨S1x256x50304, .bf16⟩
  | .hbm, ⟨18, _⟩ => ⟨S1x256, .bf16⟩
  | .hbm, ⟨19, _⟩ => ⟨S1x256x1, .bf16⟩
  | .hbm, ⟨20, _⟩ => ⟨S1x256x2560, .bf16⟩
  | .hbm, ⟨21, _⟩ => ⟨S1x256x2560, .bf16⟩
  | .hbm, ⟨22, _⟩ => ⟨S50304x2560, .f32⟩
  | .hbm, ⟨23, _⟩ => ⟨S_, .i32⟩
  | .hbm, ⟨24, _⟩ => ⟨S1x256, .i32⟩
  | .hbm, ⟨25, _⟩ => ⟨S1x256, .i1⟩
  | .hbm, ⟨26, _⟩ => ⟨S_, .i32⟩
  | .hbm, ⟨27, _⟩ => ⟨S_, .i32⟩
  | .hbm, ⟨28, _⟩ => ⟨S1x256, .i32⟩
  | .hbm, ⟨29, _⟩ => ⟨S1x256, .i1⟩
  | .hbm, ⟨30, _⟩ => ⟨S1x256, .i1⟩
  | .hbm, ⟨31, _⟩ => ⟨S1x256, .i32⟩
  | .hbm, ⟨32, _⟩ => ⟨S1x256, .i32⟩
  | .hbm, ⟨33, _⟩ => ⟨S_, .i32⟩
  | .hbm, ⟨34, _⟩ => ⟨S_, .i32⟩
  | .hbm, ⟨35, _⟩ => ⟨S1x256, .i32⟩
  | .hbm, ⟨36, _⟩ => ⟨S1x256, .i32⟩
  | .hbm, ⟨37, _⟩ => ⟨S256, .i32⟩
  | .hbm, ⟨38, _⟩ => ⟨S256x2560, .bf16⟩
  | .hbm, ⟨39, _⟩ => ⟨S256x2560, .f32⟩
  | .hbm, ⟨40, _⟩ => ⟨S_, .i32⟩
  | .hbm, ⟨41, _⟩ => ⟨S256, .i32⟩
  | .hbm, ⟨42, _⟩ => ⟨S256, .i1⟩
  | .hbm, ⟨43, _⟩ => ⟨S_, .i32⟩
  | .hbm, ⟨44, _⟩ => ⟨S256, .i32⟩
  | .hbm, ⟨45, _⟩ => ⟨S256, .i32⟩
  | .hbm, ⟨46, _⟩ => ⟨S256, .i32⟩
  | .hbm, ⟨47, _⟩ => ⟨S256x1, .i32⟩
  | .hbm, ⟨48, _⟩ => ⟨S50304x2560, .f32⟩
  | .hbm, ⟨49, _⟩ => ⟨S50304, .bf16⟩
  | .hbm, ⟨50, _⟩ => ⟨S50304x1, .bf16⟩
  | .hbm, ⟨51, _⟩ => ⟨S50304x2560, .bf16⟩
  | .hbm, ⟨52, _⟩ => ⟨S50304x2560, .bf16⟩
  | .hbm, ⟨53, _⟩ => ⟨S1x256x2560, .f32⟩
  | .hbm, ⟨54, _⟩ => ⟨S1x256x2560, .bf16⟩
  | .hbm, ⟨55, _⟩ => ⟨S256x2560, .bf16⟩
  | .local _ .vmem, ⟨0, _⟩ => ⟨S1x256x50304, .fp8e5m2⟩
  | .local _ .vmem, ⟨1, _⟩ => ⟨S1x256x2560, .fp8e4m3⟩
  | .local _ .vmem, ⟨2, _⟩ => ⟨S50304x2560, .i8⟩
  | .local _ .vmem, ⟨3, _⟩ => ⟨S1x256x50304, .bf16⟩
  | .local _ .vmem, ⟨4, _⟩ => ⟨S1x256x2560, .bf16⟩
  | .local _ .vmem, ⟨5, _⟩ => ⟨S50304x2560, .bf16⟩
  | _, _ => ⟨S1x256x50304, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_0 : Ref sig .tc := ⟨.hbm, 33, rfl⟩
abbrev main_call0_v0 : Ref sig .tc := ⟨.hbm, 34, rfl⟩
abbrev main_call0_v1 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_1 : Ref sig .tc := ⟨.hbm, 40, rfl⟩
abbrev main_v25 : Ref sig .tc := ⟨.hbm, 41, rfl⟩
abbrev main_v26 : Ref sig .tc := ⟨.hbm, 42, rfl⟩
abbrev main_c_2 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1x256x50304 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256x2560 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S50304x2560 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x256x50304 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x256x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S50304x2560 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Chain.lean ====
/-
  The linked lists the kernel's prologue builds in two integer tables, as plain lists of token numbers: which tile a
  token's row lies in, the list of the tokens of a tile in the order the links give it, and what it means for a head word
  and a table of successors to spell a list. Nothing here mentions a program.
-/
module

public import Idealize.ShloMosaic.Lib.WordCmp
public import Idealize.ShloMosaic.Lib.Affine

@[expose] public section

namespace Cert.Chain

open Idealize.ShloMosaic Idealize.ShloMosaic.WordCmp Idealize.ShloMosaic.Affine

/-- The tile of 384 rows that word `w` names, relative to the shard's first row `s` (the difference wraps). -/
def tileOf (s w : BitVec 32) : ℕ := (w - s).toNat / 384

/-- The tokens numbered `256 - k` and above whose tile is `j`, lowest first. -/
def chain (tile : Fin 256 → ℕ) : ℕ → ℕ → List (Fin 256)
  | 0, _ => []
  | k + 1, j => if tile ⟨255 - k, by omega⟩ = j then ⟨255 - k, by omega⟩ :: chain tile k j else chain tile k j

/-- The head word `w` and the successors `next` spell the list: each element's number, then the number of its successor, and minus
    one after the last. -/
def Spells (next : Fin 256 → BitVec 32) : BitVec 32 → List (Fin 256) → Prop
  | w, [] => w = 4294967295#32
  | w, t :: L => w = BitVec.ofNat 32 t.val ∧ Spells next (next t) L

/-- A token listed among those numbered `256 - k` and above has such a number. -/
theorem le_of_mem_chain {tile : Fin 256 → ℕ} {k j : ℕ} {t : Fin 256} (hk : k ≤ 256) (h : t ∈ chain tile k j) : 256 - k ≤ t.val := by
  induction k with
  | zero => simp [chain] at h
  | succ k ih =>
    unfold chain at h
    split at h
    · rcases List.mem_cons.mp h with h | h
      · subst h; show 256 - (k + 1) ≤ 255 - k; omega
      · have := ih (by omega) h; omega
    · have := ih (by omega) h; omega

/-- A token listed for tile `j` lies in tile `j`. -/
theorem tile_of_mem_chain {tile : Fin 256 → ℕ} {k j : ℕ} {t : Fin 256} (h : t ∈ chain tile k j) : tile t = j := by
  induction k with
  | zero => simp [chain] at h
  | succ k ih =>
    unfold chain at h
    split at h
    · rename_i hj
      rcases List.mem_cons.mp h with h | h
      · subst h; exact hj
      · exact ih h
    · exact ih h

/-- Changing the successor of a token outside the list leaves the list spelled. -/
theorem Spells.congr {next next' : Fin 256 → BitVec 32} {L : List (Fin 256)} :
    ∀ {w : BitVec 32}, (∀ t ∈ L, next' t = next t) → Spells next w L → Spells next' w L := by
  induction L with
  | nil => intro w _ h; exact h
  | cons t L ih =>
    intro w hn h
    refine ⟨h.1, ?_⟩
    rw [hn t (List.mem_cons_self ..)]
    exact ih (fun u hu => hn u (List.mem_cons_of_mem _ hu)) h.2

/-- Every tile's head and the successors spell the tile's list, of the tokens numbered `256 - k` and above. -/
def Links (tile : Fin 256 → ℕ) (k : ℕ) (head : Fin 131 → BitVec 32) (next : Fin 256 → BitVec 32) : Prop :=
  ∀ j : Fin 131, Spells next (head j) (chain tile k j.val)

/-- With every head at minus one, the empty lists are spelled. -/
theorem links_zero (tile : Fin 256 → ℕ) (head : Fin 131 → BitVec 32) (next : Fin 256 → BitVec 32)
    (h : ∀ j, head j = 4294967295#32) : Links tile 0 head next := fun j => h j

/-- A token in no tile changes no list. -/
theorem Links.miss {tile : Fin 256 → ℕ} {k : ℕ} {head : Fin 131 → BitVec 32} {next : Fin 256 → BitVec 32}
    (h : Links tile k head next) (ht : 131 ≤ tile ⟨255 - k, by omega⟩) : Links tile (k + 1) head next := by
  intro j
  unfold chain
  rw [if_neg (by have := j.isLt; omega)]
  exact h j

/-- A token of tile `j₀` put at the head of that tile's list: its successor the old head, the head its number. -/
theorem Links.hit {tile : Fin 256 → ℕ} {k : ℕ} (hk : k < 256) {head head' : Fin 131 → BitVec 32} {next next' : Fin 256 → BitVec 32}
    (h : Links tile k head next) (j₀ : Fin 131) (ht : tile ⟨255 - k, by omega⟩ = j₀.val)
    (hh : ∀ j, head' j = if j = j₀ then BitVec.ofNat 32 (255 - k) else head j)
    (hn : ∀ t, next' t = if t = ⟨255 - k, by omega⟩ then head j₀ else next t) : Links tile (k + 1) head' next' := by
  intro j
  have hkeep : ∀ j : Fin 131, Spells next' (head j) (chain tile k j.val) := fun j =>
    Spells.congr (fun t hm => by
      rw [hn, if_neg]
      rintro rfl
      have := le_of_mem_chain (by omega) hm
      simp only at this
      omega) (h j)
  unfold chain
  rw [hh]
  by_cases hj : j = j₀
  · subst hj
    rw [if_pos rfl, if_pos ht]
    refine ⟨rfl, ?_⟩
    rw [hn, if_pos rfl]
    exact hkeep j
  · rw [if_neg hj, if_neg fun e => hj (Fin.ext (by omega))]
    exact hkeep j

/-! ## Words -/

/-- A difference of words below 131 tiles, tested by two signed comparisons, is below as an unsigned number. -/
theorem inRange_iff (v : BitVec 32) :
    Scalar.cmpi .ne (Scalar.extui (Scalar.andi (Scalar.cmpi .sge v 0#32) (Scalar.cmpi .slt v 50304#32))) 0#32 = 1#1 ↔ v.toNat < 50304 := by
  have e : (Scalar.andi (Scalar.cmpi .sge v 0#32) (Scalar.cmpi .slt v 50304#32)) = BitVec.ofBool (decide (v.toNat < 50304)) := by
    have := andi_sge_zero_slt_ofNat (w := 32) (k := 50304) (by decide) v
    exact this
  rw [e]
  by_cases h : v.toNat < 50304
  · simp only [h, decide_true, iff_true]; decide
  · simp only [h, decide_false, iff_false]; decide

/-- A word read signed, as the integer it is. -/
theorem isInt_iff {x : BitVec 32} {e : ℤ} : IsInt x e ↔ x.toInt = e := by unfold IsInt; exact Iff.rfl

/-- The kernel's rounded-down quotient by 384, of a word below 50304, is the quotient of its number. -/
theorem floorDiv_toNat (v : BitVec 32) (h : v.toNat < 50304) :
    (Scalar.select
      (Scalar.andi
        (Scalar.cmpi .ne (Scalar.subi (Scalar.extui (Scalar.cmpi .sgt v 0#32)) (Scalar.extui (Scalar.cmpi .slt v 0#32)))
          (Scalar.subi (Scalar.extui (Scalar.cmpi .sgt 384#32 0#32)) (Scalar.extui (Scalar.cmpi .slt 384#32 0#32))))
        (Scalar.cmpi .ne (Scalar.remsi v 384#32) 0#32))
      (Scalar.subi (Scalar.divsi v 384#32) 1#32) (Scalar.divsi v 384#32)).toNat = v.toNat / 384 := by
  by_cases h0 : v = 0#32
  · subst h0; decide +kernel
  · have hpos : 0 < v.toNat := by
      rcases Nat.eq_zero_or_pos v.toNat with h1 | h1
      · exact absurd (BitVec.eq_of_toNat_eq (by simpa using h1)) h0
      · exact h1
    have hti : v.toInt = (v.toNat : ℤ) := by
      rw [BitVec.toInt_eq_toNat_cond, if_pos (by omega)]
    have e1 : Scalar.cmpi .sgt v 0#32 = 1#1 := by
      show IntOp.cmpi .sgt v 0#32 = 1#1
      rw [cmpi_sgt_eq, hti]
      simp [hpos]
    have e2 : Scalar.cmpi .slt v 0#32 = 0#1 := by
      show IntOp.cmpi .slt v 0#32 = 0#1
      rw [cmpi_slt_eq, hti, decide_eq_false (by simp)]
      rfl
    have e3 : Scalar.divsi v 384#32 = BitVec.ofNat 32 (v.toNat / 384) := by
      show IntOp.divsi .scalar v 384#32 = _
      apply BitVec.eq_of_toInt_eq
      have := isInt_iff.1 (Affine.divsi (a := v) (b := 384#32) (ea := v.toNat) (eb := 384) (e := (v.toNat : ℤ) / 384) (isInt_iff.2 hti)
        (isInt_iff.2 (by decide)) ⟨rfl, by omega, by omega⟩)
      refine Eq.trans this ?_
      rw [BitVec.toInt_eq_toNat_cond, BitVec.toNat_ofNat, Nat.mod_eq_of_lt (by omega), if_pos (by omega)]
      omega
    rw [e1, e2, e3]
    have e4 : ∀ r : BitVec 1, Scalar.andi (Scalar.cmpi .ne (Scalar.subi (Scalar.extui 1#1) (Scalar.extui 0#1))
          (Scalar.subi (Scalar.extui (Scalar.cmpi .sgt 384#32 0#32)) (Scalar.extui (Scalar.cmpi .slt 384#32 0#32)))) r = 0#1 := by decide
    rw [e4]
    show (BitVec.ofNat 32 (v.toNat / 384)).toNat = _
    rw [BitVec.toNat_ofNat, Nat.mod_eq_of_lt (by omega)]

/-- The row of a word's difference within its tile. -/
theorem row_toNat (v : BitVec 32) (i : ℕ) (hi : i < 131) (h : v.toNat / 384 = i) :
    (Scalar.subi v (Scalar.muli (BitVec.ofNat 32 i) 384#32)).toNat = v.toNat % 384 := by
  show (v - BitVec.ofNat 32 i * 384#32).toNat = _
  rw [BitVec.toNat_sub, BitVec.toNat_mul, BitVec.toNat_ofNat, BitVec.toNat_ofNat]
  have := v.isLt
  omega

end Cert.Chain
-- ==== Proof.Bits.Words.lean ====
/-
  The kernel's offsets, checks and conditions at the words its tables hold: closed forms for the accesses whose place is
  computed from an id, the shard's first row, or a link.
-/
module

public import proofs.«01_k».proof.Proof.Gen.Kernel
public import proofs.«01_k».proof.Proof.Gen.Kernel.Skeleton
public import proofs.«01_k».proof.Proof.Chain

@[expose] public section

set_option maxRecDepth 16384

namespace Cert.Kernel.Hand

open Cert.Kernel Cert.Kernel.Gen Cert.Chain
open Idealize.ShloMosaic Idealize.ShloMosaic.WordCmp Idealize.ShloMosaic.Affine

/-- The linking step's test: the id lies in this shard. -/
theorem cond2_iff (s w : BitVec 32) : k0_cond2 s w = 1#1 ↔ (w - s).toNat < 50304 := inRange_iff (w - s)

/-- Where the linking step finds the head of the id's tile. -/
theorem off3_eq (s w : BitVec 32) (h : (w - s).toNat < 50304) : k0_off3 s w = ![tileOf s w] := by
  have := floorDiv_toNat (w - s) h
  exact congrArg (fun n => (![n] : Fin 1 → ℕ)) this

/-- The linking step's check holds of every id and first row. -/
theorem chk1 (i : grid0.Coords) (s w : BitVec 32) : k0_chk1 i s w := by
  intro _ h2 a
  have h := (cond2_iff s w).mp h2
  rw [off3_eq s w h]
  have ha : a = 0 := Subsingleton.elim _ _
  subst ha
  show tileOf s w + 1 ≤ 131
  unfold tileOf; omega

theorem ofNat_toNat (t : Fin 256) : (BitVec.ofNat 32 t.val).toNat = t.val := by
  rw [BitVec.toNat_ofNat, Nat.mod_eq_of_lt (by have := t.isLt; omega)]

theorem off7_eq (t : Fin 256) : k0_off7 (BitVec.ofNat 32 t.val) = ![t.val] :=
  congrArg (fun n => (![n] : Fin 1 → ℕ)) (ofNat_toNat t)
theorem off10_eq (t : Fin 256) : k0_off10 (BitVec.ofNat 32 t.val) = ![t.val] :=
  congrArg (fun n => (![n] : Fin 1 → ℕ)) (ofNat_toNat t)
theorem off9_eq (t : Fin 256) : k0_off9 (BitVec.ofNat 32 t.val) = ![t.val, 0] :=
  congrArg (fun n => (![n, 0] : Fin 2 → ℕ)) (ofNat_toNat t)

/-- The walk's check holds of every token's number. -/
theorem chk2 (t : Fin 256) : k0_chk2 (BitVec.ofNat 32 t.val) := by
  unfold k0_chk2
  rw [off7_eq, off9_eq, off10_eq]
  have := t.isLt
  refine ⟨fun a => ?_, fun a => ?_, fun a => ?_⟩
  · have ha : a = 0 := Subsingleton.elim _ _
    subst ha
    show t.val + 1 ≤ 256; omega
  · fin_cases a
    · show t.val + 1 ≤ 256; omega
    · show 0 + 2560 ≤ 2560; omega
  · have ha : a = 0 := Subsingleton.elim _ _
    subst ha
    show t.val + 1 ≤ 256; omega

/-- Where the walk finds the id's row in the tile. -/
theorem off8_eq (i : grid0.Coords) (s w : BitVec 32) (h : tileOf s w = (i 0).val) : k0_off8 i w s = ![(w - s).toNat % 384, 0] :=
  congrArg (fun n => (![n, 0] : Fin 2 → ℕ)) (row_toNat (w - s) (i 0).val (i 0).isLt h)

/-- The walk's check holds of every id of the tile. -/
theorem chk3 (i : grid0.Coords) (s w : BitVec 32) (h : tileOf s w = (i 0).val) : k0_chk3 i w s := by
  unfold k0_chk3
  rw [off8_eq i s w h]
  intro a
  fin_cases a
  · show (w - s).toNat % 384 + 1 ≤ 384; omega
  · show 0 + 2560 ≤ 2560; omega

/-- The walk goes on at a token's number and stops at minus one. -/
theorem sge_token (t : Fin 256) : Scalar.cmpi .sge (BitVec.ofNat 32 t.val) 0#32 = 1#1 := by
  show IntOp.cmpi .sge _ _ = _
  rw [cmpi_sge_zero, ofNat_toNat]
  have : t.val < 2 ^ (32 - 1) := by have := t.isLt; omega
  simp only [this, decide_true]; rfl
theorem sge_end : ¬ Scalar.cmpi .sge (4294967295#32) 0#32 = 1#1 := by decide

/-- The first point's condition, and the last's. -/
theorem cond1_iff : ∀ i : grid0.Coords, k0_cond1 i = 1#1 ↔ (i 0).val = 0 := by decide +kernel
theorem cond3_iff : ∀ i : grid0.Coords, k0_cond3 i = 1#1 ↔ (i 0).val = 130 := by decide +kernel

/-- Where the three 128-column blocks of scales the point reads begin. -/
theorem off5_eq : ∀ i : grid0.Coords, ∀ r : Fin 3, k0_off5 i (BitVec.ofNat 32 r.val) = ![0, (3 * (i 0).val + r.val) / 128 * 128] := by decide +kernel

theorem trip_word : ∀ k : Fin k0_t2_loop.trips, Scalar.subi 255#32 (Scf.iv 0#32 1#32 k) = BitVec.ofNat 32 (255 - k.val) := by decide +kernel
theorem trips1 : k0_t1_loop.trips = 131 := by decide
theorem trips2 : k0_t2_loop.trips = 256 := by decide

end Cert.Kernel.Hand
-- ==== Proof.Held.lean ====
/-
  Rules for a memref owned at known contents (`owns c m q X`): a load through a rectangle continues at the
  elements of `X` the rectangle names, an unmasked store at a unit-stride rectangle leaves `X` with the stored
  block put over the rectangle. Stated for every program; nothing here mentions a kernel.
-/
module

public import Idealize.ShloMosaic.Lib.Pipeline.Frame
public import Idealize.ShloMosaic.Lib.Tactic
public import Idealize.ShloMosaic.Lib.VecWindow

@[expose] public section

noncomputable section

namespace Idealize.ShloMosaic.Held

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U]
variable {Lvl : Type} {Λ : Labels}
local notation "𝕄" => MT nD τ sig Ix Val Name U Lvl
variable [Preorder Lvl] {defs : Defs nD τ sig Val Λ} (𝒱 : Variants) (c : Thread nD τ)
  (bd : Option 𝒱.V) (E : Set Name)
variable {s : Shape} {e : EltTy}
variable {α : Type} {Q : α → sProp (MT nD τ sig Ix Val Name U Lvl)}

/-- A load of a memref owned at `X` continues at the elements of `X` the load's coordinates name. -/
theorem wp_load {cs : CoreSpace} {m : Memref sig c.2.kind cs s e} {r : LoadRect s} {hl : m.view.LoadsAt r}
    {k : (r.shape.Idx → Val e) → Prog (TpuEff nD τ sig Val Λ c.2) α} {q : PosShare TreeShare} {X : s.Idx → Val e} :
    (owns c m q X : sProp 𝕄)
      ⊢ iprop((owns c m q X -∗ wp frame (wpE defs 𝒱 c bd) E (k (fun x => X (r.idx x))) Q)
        -∗ wp frame (wpE defs 𝒱 c bd) E (.op (.load m r hl) k) Q) := by
  unfold owns
  iintro ⟨%f, %hf, H⟩ Hk
  iapply (ShloMosaic.wp_load 𝒱 c bd E (m := m) (View.setOn_subset_set _ _)) $$ H
  iintro H
  subst hf
  iapply Hk
  iexists f
  isplitr
  · ipureintro; rfl
  iexact H

/-- A load of all of a memref owned at `X` continues at `X`. -/
theorem wp_load_full {cs : CoreSpace} {m : Memref sig c.2.kind cs s e} {off : Fin s.rank → ℕ} {inb : ∀ a, off a + s.size a ≤ s.size a}
    {hl : m.view.LoadsAt (Rect.unit off s.size inb).toLoadRect}
    {k : (s.Idx → Val e) → Prog (TpuEff nD τ sig Val Λ c.2) α} {q : PosShare TreeShare} {X : s.Idx → Val e} :
    (owns c m q X : sProp 𝕄)
      ⊢ iprop((owns c m q X -∗ wp frame (wpE defs 𝒱 c bd) E (k X) Q)
        -∗ wp frame (wpE defs 𝒱 c bd) E (.op (.load m (Rect.unit off s.size inb).toLoadRect hl) k) Q) := by
  have h : (fun x => X ((Rect.unit off s.size inb).toLoadRect.idx x)) = X := by
    funext y
    exact congrArg X (funext fun a => Fin.ext (by
      show off a + 1 * (y a).val = (y a).val
      have := inb a; omega))
  have := wp_load (Λ := Λ) (defs := defs) (𝒱 := 𝒱) (c := c) (bd := bd) (E := E) (m := m) (r := (Rect.unit off s.size inb).toLoadRect) (hl := hl) (k := k) (Q := Q)
    (Ix := Ix) (U := U) (Lvl := Lvl) (q := q) (X := X)
  rw [h] at this
  exact this

/-- An unmasked store at a unit-stride rectangle of a memref owned at `X` leaves `X` with the block put over the rectangle. -/
theorem wp_store {cs : CoreSpace} {m : Memref sig c.2.kind cs s e} {off size : Fin s.rank → ℕ} {inb : ∀ a, off a + size a ≤ s.size a}
    {w : (Rect.unit off size inb).shape.Idx → Val e}
    {hx : (m.access (Rect.unit off size inb)).Stores Finset.univ} {hm : (Finset.univ : Finset (Rect.unit off size inb).shape.Idx) = Finset.univ ∨ ∀ a, (Rect.unit off size inb).stride a = 1}
    {k : PUnit → Prog (TpuEff nD τ sig Val Λ c.2) α} {X : s.Idx → Val e} :
    (owns c m fullShare X : sProp 𝕄)
      ⊢ iprop((owns c m fullShare (VecWindow.put X off size w) -∗ wp frame (wpE defs 𝒱 c bd) E (k ⟨⟩) Q)
        -∗ wp frame (wpE defs 𝒱 c bd) E (.op (.store m (Rect.unit off size inb) w Finset.univ hx hm) k) Q) := by
  unfold owns
  iintro ⟨%f, %hf, H⟩ Hk
  iapply (ShloMosaic.wp_store 𝒱 c bd E (m := m) (r := Rect.unit off size inb) (Mk := Finset.univ) (f := f)
    (by exact View.set_slice_subset _ _)) $$ H
  iintro H
  subst hf
  iapply Hk
  iexists _
  isplitr; swap
  · iexact H
  ipureintro
  have := View.read_writes_cons_put m.view f inb w [] (h := rfl)
  rw [View.writes_nil] at this
  exact this

/-- An unmasked store over all of a memref leaves the stored value. -/
theorem wp_store_full {cs : CoreSpace} {m : Memref sig c.2.kind cs s e} {off : Fin s.rank → ℕ} {inb : ∀ a, off a + s.size a ≤ s.size a}
    {w : s.Idx → Val e}
    {hx : (m.access (Rect.unit off s.size inb)).Stores Finset.univ} {hm : (Finset.univ : Finset (Rect.unit off s.size inb).shape.Idx) = Finset.univ ∨ ∀ a, (Rect.unit off s.size inb).stride a = 1}
    {k : PUnit → Prog (TpuEff nD τ sig Val Λ c.2) α} {X : s.Idx → Val e} :
    (owns c m fullShare X : sProp 𝕄)
      ⊢ iprop((owns c m fullShare w -∗ wp frame (wpE defs 𝒱 c bd) E (k ⟨⟩) Q)
        -∗ wp frame (wpE defs 𝒱 c bd) E (.op (.store m (Rect.unit off s.size inb) w Finset.univ hx hm) k) Q) := by
  have h : VecWindow.put X off s.size w = w := by
    funext y
    have hy : ∀ a, off a ≤ (y a).val ∧ (y a).val < off a + s.size a := fun a => by
      have := inb a; have := (y a).isLt; omega
    unfold VecWindow.put
    rw [dif_pos hy]
    exact congrArg w (funext fun a => Fin.ext (by
      show (y a).val - off a = (y a).val
      have := inb a; omega))
  have := wp_store (Λ := Λ) (defs := defs) (𝒱 := 𝒱) (c := c) (bd := bd) (E := E) (m := m) (off := off) (size := s.size) (inb := inb) (w := w) (hx := hx) (hm := hm) (k := k) (Q := Q)
    (Ix := Ix) (U := U) (Lvl := Lvl) (X := X)
  rw [h] at this
  exact this

/-- The index of position `p` in a shape of one axis. -/
def ix1 {n : ℕ} (p : Fin n) : (⟨1, ![n]⟩ : Shape).Idx := fun a => ⟨p.val, by
  have : a = 0 := Subsingleton.elim _ _
  subst this; exact p.isLt⟩

theorem ix1_val {n : ℕ} (p : Fin n) (a : Fin 1) : (ix1 p a).val = p.val := rfl

/-- The one word a rectangle of size one at offset `p` names is the word at `p`. -/
theorem word_at {n : ℕ} {β : Type} (X : (⟨1, ![n]⟩ : Shape).Idx → β) {off : Fin 1 → ℕ}
    {inb : ∀ a, off a + (![1] : Fin 1 → ℕ) a ≤ (⟨1, ![n]⟩ : Shape).size a} (p : Fin n) (h : off = ![p.val])
    (x : (Rect.unit (s := ⟨1, ![n]⟩) off ![1] inb).toLoadRect.shape.Idx) :
    X ((Rect.unit (s := ⟨1, ![n]⟩) off ![1] inb).toLoadRect.idx x) = X (ix1 p) := by
  subst h
  refine congrArg X (funext fun a => Fin.ext ?_)
  have ha : a = 0 := Subsingleton.elim _ _
  subst ha
  show p.val + 1 * (x 0).val = p.val
  have : (x 0).val < 1 := (x 0).isLt
  omega

/-- Putting one word at offset `p`: the word there, everything else as it was. -/
theorem put_word {n : ℕ} {β : Type} (X : (⟨1, ![n]⟩ : Shape).Idx → β) {off : Fin 1 → ℕ} (p q : Fin n) (h : off = ![p.val]) (w : β) :
    VecWindow.put (s := ⟨1, ![n]⟩) X off ![1] (fun _ => w) (ix1 q) = if q = p then w else X (ix1 q) := by
  subst h
  unfold VecWindow.put
  by_cases hq : q = p
  · subst hq
    rw [if_pos rfl, dif_pos]
    intro a
    have ha : a = 0 := Subsingleton.elim _ _
    subst ha
    show q.val ≤ q.val ∧ q.val < q.val + 1
    omega
  · rw [if_neg hq, dif_neg]
    intro hall
    have := hall 0
    have h1 : p.val ≤ q.val ∧ q.val < p.val + 1 := this
    exact hq (Fin.ext (by omega))

/-- A load of one word of a scalar memory owned at `X`, at offset `p`, continues at the word of `X` there. -/
theorem wp_word {n : ℕ} {m : Memref sig c.2.kind .smem ⟨1, ![n]⟩ e} {off : Fin 1 → ℕ}
    {inb : ∀ a, off a + (![1] : Fin 1 → ℕ) a ≤ (⟨1, ![n]⟩ : Shape).size a}
    {hl : m.view.LoadsAt (Rect.unit (s := ⟨1, ![n]⟩) off ![1] inb).toLoadRect}
    {k : ((Rect.unit (s := ⟨1, ![n]⟩) off ![1] inb).toLoadRect.shape.Idx → Val e) → Prog (TpuEff nD τ sig Val Λ c.2) α}
    {q : PosShare TreeShare} {X : (⟨1, ![n]⟩ : Shape).Idx → Val e} (p : Fin n) (h : off = ![p.val]) :
    (owns c m q X : sProp 𝕄)
      ⊢ iprop((owns c m q X -∗ wp frame (wpE defs 𝒱 c bd) E (k (fun _ => X (ix1 p))) Q)
        -∗ wp frame (wpE defs 𝒱 c bd) E (.op (.load m (Rect.unit (s := ⟨1, ![n]⟩) off ![1] inb).toLoadRect hl) k) Q) := by
  have := wp_load (Λ := Λ) (defs := defs) (𝒱 := 𝒱) (c := c) (bd := bd) (E := E) (m := m) (r := (Rect.unit (s := ⟨1, ![n]⟩) off ![1] inb).toLoadRect) (hl := hl) (k := k) (Q := Q)
    (Ix := Ix) (U := U) (Lvl := Lvl) (q := q) (X := X)
  have hw := funext fun x => word_at X p h (inb := inb) x
  rw [hw] at this
  exact this

end Idealize.ShloMosaic.Held

end
-- ==== Proof.Bits.Walk.lean ====
/-
  The walk along one tile's list: the label of the kernel's while loop, entered at a head word that spells a list of tokens of this
  tile, adds each token's row of the embedding gradient to the token's row of the tile and returns.
-/
module

public import proofs.«01_k».proof.Proof.Bits.Words
public import proofs.«01_k».proof.Proof.Held
public import Idealize.ShloMosaic.Lib.Pipeline.Value

@[expose] public section

set_option maxRecDepth 16384

noncomputable section

namespace Cert.Kernel.Hand

open Cert.Kernel Cert.Kernel.Gen Cert.Chain
open Idealize.ShloMosaic Idealize.ShloMosaic.TcCoe Idealize.ShloMosaic.Tactic Idealize.ShloMosaic.Held
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- While labels are entered at a number that goes down with each trip. -/
abbrev 𝒱₀ : Variants := Variants.nat

/-- The index `(p, q)` of a matrix. -/
def ix2 {n k : ℕ} (p : Fin n) (q : Fin k) : (⟨2, ![n, k]⟩ : Shape).Idx := fun a => Fin.cases p (fun b => Fin.cases q (fun b => b.elim0) b) a

theorem ix2_eta {n k : ℕ} (y : (⟨2, ![n, k]⟩ : Shape).Idx) : ix2 (y 0) (y 1) = y := by
  funext a; fin_cases a <;> rfl

/-- Row `r` of the tile with row `t` of the embedding gradient added. -/
def addRow (D : S256x2560.Idx → F .f32) (X : S384x2560.Idx → F .f32) (r : ℕ) (t : Fin 256) : S384x2560.Idx → F .f32 :=
  fun y => if (y 0).val = r then FloatOps.addf (X y) (D (ix2 t (y 1))) else X y

/-- The tile with the rows of the tokens of a list added, first to last. -/
def addRows (ids : Fin 256 → BitVec 32) (s : BitVec 32) (D : S256x2560.Idx → F .f32) (X : S384x2560.Idx → F .f32) (L : List (Fin 256)) :
    S384x2560.Idx → F .f32 :=
  L.foldl (fun X t => addRow D X ((ids t - s).toNat % 384) t) X

/-- One trip's store is the row added. -/
theorem put_row (D : S256x2560.Idx → F .f32) (X : S384x2560.Idx → F .f32) (r : ℕ) (t : Fin 256) {off off' : Fin 2 → ℕ}
    {inb : ∀ a, off a + S1x2560.size a ≤ S384x2560.size a} {inb' : ∀ a, off' a + S1x2560.size a ≤ S256x2560.size a}
    (h : off = ![r, 0]) (h' : off' = ![t.val, 0]) :
    VecWindow.put (s := S384x2560) X off S1x2560.size
      (k0_pay3 (fun x => X ((Rect.unit (s := S384x2560) off S1x2560.size inb).toLoadRect.idx x))
        (fun x => D ((Rect.unit (s := S256x2560) off' S1x2560.size inb').toLoadRect.idx x))) = addRow D X r t := by
  subst h h'
  funext y
  unfold VecWindow.put addRow
  by_cases hy : (y 0).val = r
  · rw [if_pos hy, dif_pos]
    · unfold k0_pay3
      simp only [shapeCast_self]
      have e1 : ∀ z : S1x2560.Idx, (z 1).val = (y 1).val → (Rect.unit (s := S384x2560) ![r, 0] S1x2560.size inb).toLoadRect.idx z = y := fun z hz => by
        have hz0 : (z 0).val < 1 := (z 0).isLt
        funext a; apply Fin.ext
        fin_cases a
        · show r + 1 * (z 0).val = (y 0).val; omega
        · show 0 + 1 * (z 1).val = (y 1).val; omega
      have e2 : ∀ z : S1x2560.Idx, (z 1).val = (y 1).val → (Rect.unit (s := S256x2560) ![t.val, 0] S1x2560.size inb').toLoadRect.idx z = ix2 t (y 1) := fun z hz => by
        have hz0 : (z 0).val < 1 := (z 0).isLt
        funext a; apply Fin.ext
        fin_cases a
        · show t.val + 1 * (z 0).val = t.val; omega
        · show 0 + 1 * (z 1).val = (y 1).val; omega
      show FloatOps.addf (X _) (D _) = _
      rw [e1, e2] <;> rfl
    · intro a
      fin_cases a
      · show r ≤ (y 0).val ∧ (y 0).val < r + 1; omega
      · show 0 ≤ (y 1).val ∧ (y 1).val < 0 + 2560
        have : (y 1).val < 2560 := (y 1).isLt
        omega
  · rw [if_neg hy, dif_neg]
    intro hall
    have : r ≤ (y 0).val ∧ (y 0).val < r + 1 := hall 0
    omega

section Label

variable (c : Dev nD) (i : grid0.Coords)
  (arg1 : Memref sig .tc .smem S256 .i32) (harg1 : arg1.IsWhole) (arg2 : Memref sig .tc .smem S1 .i32) (harg2 : arg2.IsWhole)
  (arg10 : Memref sig .tc .vmem S384x2560 .f32) (harg10 : arg10.IsWhole) (arg14 : Memref sig .tc .vmem S256x2560 .f32) (harg14 : arg14.IsWhole)
  (arg17 : Memref sig .tc .smem S256 .i32) (harg17 : arg17.IsWhole)
  (I : S256.Idx → BitVec 32) (S : S1.Idx → BitVec 32) (D : S256x2560.Idx → F .f32) (N : S256.Idx → BitVec 32)

/-- The five buffers the walk reads and writes: the tile at `X`, the others at their contents. -/
def held (X : S384x2560.Idx → F .f32) : sProp 𝕄 :=
  iprop(owns (c : Thread nD τ) arg1 fullShare I ∗ owns (c : Thread nD τ) arg2 fullShare S ∗ owns (c : Thread nD τ) arg10 fullShare X
    ∗ owns (c : Thread nD τ) arg14 fullShare D ∗ owns (c : Thread nD τ) arg17 fullShare N)

/-- The walk's specification on a list: the tile gets the list's rows. -/
def spec (X : S384x2560.Idx → F .f32) (L : List (Fin 256)) : sWPT 𝕄 (BitVec 32) := do
  sWPT.consume (held c arg1 arg2 arg10 arg14 arg17 I S D N X)
  let r ← sWPT.arbitrary
  sWPT.produce (held c arg1 arg2 arg10 arg14 arg17 I S D N (addRows (fun t => I (ix1 t)) (S (ix1 0)) D X L))
  pure r

theorem spec_apply (X : S384x2560.Idx → F .f32) (L : List (Fin 256)) (K : BitVec 32 → sProp 𝕄) :
    spec c arg1 arg2 arg10 arg14 arg17 I S D N X L K
      = iprop(held c arg1 arg2 arg10 arg14 arg17 I S D N X
          ∗ ∀ r, (held c arg1 arg2 arg10 arg14 arg17 I S D N (addRows (fun t => I (ix1 t)) (S (ix1 0)) D X L) -∗ K r)) := rfl

/-- The label's body meets the specification at every word that spells a list of tokens of this tile. -/
theorem spec_le (E : Set ℕ) : ∀ (L : List (Fin 256)) (X : S384x2560.Idx → F .f32) (w : BitVec 32),
    (∀ t ∈ L, tileOf (S (ix1 0)) (I (ix1 t)) = (i 0).val) → Spells (fun t => N (ix1 t)) w L → ∀ K,
    spec c arg1 arg2 arg10 arg14 arg17 I S D N X L K
      ⊢ wp frame (wpE (defs₀ (F := F)) 𝒱₀ (c : Thread nD τ) (some L.length)) E
          (defs₀ (F := F) .tc 1 ⟨i, arg1, harg1, arg2, harg2, arg10, harg10, arg14, harg14, arg17, harg17, w⟩) K := by
  intro L
  induction L with
  | nil =>
    intro X w _ hw K
    rw [spec_apply]
    show _ ⊢ wp frame (wpE (defs₀ (F := F)) 𝒱₀ (c : Thread nD τ) (some 0)) E
      (cc0_while1 i arg1 harg1 arg2 harg2 arg10 harg10 arg14 harg14 arg17 harg17 w) K
    simp only [cc0_while1_eq_skeleton]; unfold cc0_while1_skel
    have hw' : w = 4294967295#32 := hw
    subst hw'
    simp only [sge_end, ↓reduceIte, Prog.pure_eq_ret]
    iintro ⟨H, Hk⟩
    rw [wp_ret]; imodintro
    iapply Hk
    iexact H
  | cons t L ih =>
    intro X w ht hw K
    rw [spec_apply]
    show _ ⊢ wp frame (wpE (defs₀ (F := F)) 𝒱₀ (c : Thread nD τ) (some (L.length + 1))) E
      (cc0_while1 i arg1 harg1 arg2 harg2 arg10 harg10 arg14 harg14 arg17 harg17 w) K
    simp only [cc0_while1_eq_skeleton]; unfold cc0_while1_skel
    obtain ⟨hw', hL⟩ := hw
    subst hw'
    have hti := ht t (List.mem_cons_self ..)
    simp only [sge_token t, ↓reduceIte, Prog.lift, Prog.bind_op, Prog.bind_ret, Prog.pure_eq_ret, smemLoad, smemLoadElt]
    unfold held
    iintro ⟨⟨H1, H2, H10, H14, H17⟩, Hk⟩
    iapply (wp_assume 𝒱₀ (c : Thread nD τ) (some (L.length + 1)) E (chk2 t))
    iapply (Held.wp_word 𝒱₀ (c : Thread nD τ) (some (L.length + 1)) E t (off7_eq t)) $$ H1; iintro H1
    iapply (Held.wp_word 𝒱₀ (c : Thread nD τ) (some (L.length + 1)) E (0 : Fin 1) rfl) $$ H2; iintro H2
    iapply (wp_assume 𝒱₀ (c : Thread nD τ) (some (L.length + 1)) E (chk3 i _ _ hti))
    iapply (Held.wp_load 𝒱₀ (c : Thread nD τ) (some (L.length + 1)) E) $$ H10; iintro H10
    iapply (Held.wp_load 𝒱₀ (c : Thread nD τ) (some (L.length + 1)) E) $$ H14; iintro H14
    iapply (Held.wp_load 𝒱₀ (c : Thread nD τ) (some (L.length + 1)) E) $$ H10; iintro H10
    iapply (Held.wp_store 𝒱₀ (c : Thread nD τ) (some (L.length + 1)) E) $$ H10; iintro H10
    iapply (Held.wp_word 𝒱₀ (c : Thread nD τ) (some (L.length + 1)) E t (off10_eq t)) $$ H17; iintro H17
    iapply (wp_call_spec 𝒱₀ (c : Thread nD τ) (some (L.length + 1)) E
      (spec c arg1 arg2 arg10 arg14 arg17 I S D N (addRow D X ((I (ix1 t) - S (ix1 0)).toNat % 384) t) L) L.length
      (fun u hu => by cases hu; exact Nat.lt_succ_self _)
      (ih (addRow D X ((I (ix1 t) - S (ix1 0)).toNat % 384) t) (N (ix1 t)) (fun u hu => ht u (List.mem_cons_of_mem _ hu)) hL))
    rw [spec_apply]; unfold held
    isplitl [H1 H2 H10 H14 H17]
    · isplitl [H1]; · iexact H1
      isplitl [H2]; · iexact H2
      isplitl [H10]
      · rw [← put_row D X _ t (off8_eq i _ _ hti) (off9_eq t) (inb := k0_off8_inb i _ _ (chk3 i _ _ hti)) (inb' := k0_off9_inb _ (chk2 t))]
        iexact H10
      isplitl [H14]; · iexact H14
      iexact H17
    iintro %r ⟨H1, H2, H10, H14, H17⟩
    rw [wp_ret]; imodintro
    iapply Hk
    isplitl [H1]; · iexact H1
    isplitl [H2]; · iexact H2
    isplitl [H10]; · iexact H10
    isplitl [H14]; · iexact H14
    iexact H17

end Label

end Cert.Kernel.Hand

end
-- ==== Proof.Bits.Tile.lean ====
/-
  What one grid point computes from its blocks: the dequantized 384 columns of the logit gradient, the tile of the embedding gradient
  before the tokens' rows are added, and the addend of the running sum — closed forms of the printed payloads.
-/
module

public import proofs.«01_k».proof.Proof.Bits.Walk

@[expose] public section

set_option maxRecDepth 16384

noncomputable section

namespace Cert.Kernel.Hand

open Cert.Kernel Cert.Kernel.Gen Cert.Chain
open Idealize.ShloMosaic Idealize.ShloMosaic.Held

variable {F : FTy → Type} [FloatOps F]

/-- The scale scratch holds the scales in its first 393 columns. -/
def ScaleOf (X : S256x512.Idx → F .f32) (dls : S256x393.Idx → F .f32) : Prop :=
  ∀ (p : Fin 256) (q : Fin 393), X (ix2 p (⟨q.val, by omega⟩ : Fin 512)) = dls (ix2 p q)

/-- Storing the scales over the first 393 columns leaves them there, whatever the scratch held. -/
theorem scaleOf_put (f : S256x512.Idx → F .f32) (dls : S256x393.Idx → F .f32) :
    ScaleOf (VecWindow.put (s := S256x512) f ![0, 0] S256x393.size (k0_pay4 dls)) dls := by
  intro p q
  unfold VecWindow.put k0_pay4
  rw [dif_pos]
  · simp only [shapeCast_self]
    refine congrArg dls (funext fun a => Fin.ext ?_)
    fin_cases a <;> rfl
  · intro a
    fin_cases a
    · exact ⟨Nat.zero_le _, by show p.val < 0 + 256; omega⟩
    · exact ⟨Nat.zero_le _, by show q.val < 0 + 393; omega⟩

/-- The number of a 128-column block of the logit gradient: the point's `r`-th. -/
def blkNo (i : grid0.Coords) (r : ℕ) : BitVec 32 := Scalar.addi (Scalar.muli (BitVec.ofNat 32 (i 0).val) 3#32) (BitVec.ofNat 32 r)

/-- The kernel's remainder by 128. -/
def rem128 (n : BitVec 32) : BitVec 32 :=
  let v28 : BitVec 32 := Scalar.select (Scalar.cmpi .eq 128#32 0#32) 1#32 128#32
  let v29 : BitVec 32 := Scalar.remsi n v28
  Scalar.select (Scalar.andi (Scalar.xori (Scalar.cmpi .slt v29 0#32) (Scalar.cmpi .slt v28 0#32)) (Scalar.cmpi .ne v29 0#32)) (Scalar.addi v29 v28) v29

/-- The kernel's wrapped lane number. -/
def laneWord (u : BitVec 32) : BitVec 32 :=
  Scalar.select (Scalar.cmpi .slt (Scalar.addi 0#32 u) 0#32) (Scalar.addi (Scalar.addi 0#32 u) 128#32) (Scalar.addi 0#32 u)

theorem lane_toNat : ∀ i : grid0.Coords, ∀ r : Fin 3, (laneWord (rem128 (blkNo i r.val))).toNat = (3 * (i 0).val + r.val) % 128 := by
  decide +kernel

/-- The lane vector a block's scales are gathered by. -/
def laneVec (u : BitVec 32) : IVec S256x128 32 :=
  have v38 : IVec S256x128 32 := addi k0_pay8 (broadcast S256x128 u)
  have v43 : IVec S256x128 32 := select (cmpi .slt v38 (broadcast S256x128 0#32)) (addi v38 (broadcast S256x128 128#32)) v38
  shapeCast S256x128 (shapeCast S256x128x1 v43 shapeCasts_S256x128_S256x128x1) shapeCasts_S256x128x1_S256x128

theorem laneVec_apply (u : BitVec 32) (x : S256x128.Idx) : laneVec u x = laneWord u := rfl

/-- One dequantized block of 128 columns: codes times the gathered scales. -/
def chunk (u : BitVec 32) (tile : S256x128.Idx → F .f32) (C : S256x128.Idx → F .fp8e5m2) : FVec F S256x128 .bf16 :=
  mulf (extf .bf16 (shapeCast S256x128 C shapeCasts_S256x128_S256x128) bitsLt_fp8e5m2_bf16) (truncf .bf16 (dynamicGather 1 tile (laneVec u)) bitsLt_bf16_f32)

/-- The point's `r`-th block of scales, and of codes, as loaded. -/
def scaleBlk (i : grid0.Coords) (r : Fin 3) (X : S256x512.Idx → F .f32) : S256x128.Idx → F .f32 :=
  fun x => X ((Rect.unit (s := S256x512) (k0_off5 i (BitVec.ofNat 32 r.val)) S256x128.size (k0_off5_inb i r)).toLoadRect.idx x)
def codeBlk (o : ℕ) (h : o + 128 ≤ 384) (C : S256x384.Idx → F .fp8e5m2) : S256x128.Idx → F .fp8e5m2 :=
  fun x => C (ix2 (x 0) (⟨o + (x 1).val, by have : (x 1).val < 128 := (x 1).isLt; omega⟩ : Fin 384))

/-- 128 columns of the codes, as loaded. -/
def codeLd (o : ℕ) (inb : ∀ a, (![0, o] : Fin 2 → ℕ) a + S256x128.size a ≤ S256x384.size a) (C : S256x384.Idx → F .fp8e5m2) : S256x128.Idx → F .fp8e5m2 :=
  fun x => C ((Rect.unit (s := S256x384) ![0, o] S256x128.size inb).toLoadRect.idx x)

/-- A load of 128 columns of the codes, column by column. -/
theorem codeBlk_eq (o : ℕ) (h : o + 128 ≤ 384) (C : S256x384.Idx → F .fp8e5m2) (inb : ∀ a, (![0, o] : Fin 2 → ℕ) a + S256x128.size a ≤ S256x384.size a) :
    codeLd o inb C = codeBlk o h C := by
  funext x
  refine congrArg C (funext fun a => Fin.ext ?_)
  fin_cases a
  · show 0 + 1 * (x 0).val = (x 0).val; omega
  · show o + 1 * (x 1).val = o + (x 1).val; omega

/-- The dequantized 384 columns of point `i`: codes times their blocks' scales, in bf16. -/
def dlB (i : grid0.Coords) (C : S256x384.Idx → F .fp8e5m2) (dls : S256x393.Idx → F .f32) : FVec F S256x384 .bf16 :=
  mulf (extf .bf16 C bitsLt_fp8e5m2_bf16)
    (truncf .bf16 (fun y : S256x384.Idx => dls (ix2 (y 0) (⟨3 * (i 0).val + (y 1).val / 128, by
      have h0 : (i 0).val < 131 := (i 0).isLt
      have h1 : (y 1).val < 384 := (y 1).isLt
      omega⟩ : Fin 393))) bitsLt_bf16_f32)

/-- A gathered block of scales, at an element. -/
theorem gather_scale (i : grid0.Coords) (r : Fin 3) {X : S256x512.Idx → F .f32} {dls : S256x393.Idx → F .f32} (h : ScaleOf X dls) (x : S256x128.Idx) :
    dynamicGather 1 (scaleBlk i r X) (laneVec (rem128 (blkNo i r.val))) x
      = dls (ix2 (x 0) (⟨3 * (i 0).val + r.val, by have h0 : (i 0).val < 131 := (i 0).isLt; omega⟩ : Fin 393)) := by
  have h0 : (i 0).val < 131 := (i 0).isLt
  have hl := lane_toNat i r
  refine Eq.trans ?_ (h (x 0) ⟨3 * (i 0).val + r.val, by omega⟩)
  unfold dynamicGather scaleBlk
  refine congrArg X (funext fun a => Fin.ext ?_)
  have ho := off5_eq i r
  fin_cases a
  · show k0_off5 i (BitVec.ofNat 32 r.val) 0 + 1 * (x 0).val = (x 0).val
    rw [ho]
    show 0 + 1 * (x 0).val = (x 0).val
    omega
  · show k0_off5 i (BitVec.ofNat 32 r.val) 1 + 1 * ((laneWord (rem128 (blkNo i r.val))).toNat % 128) = 3 * (i 0).val + r.val
    rw [ho, hl]
    show (3 * (i 0).val + r.val) / 128 * 128 + 1 * ((3 * (i 0).val + r.val) % 128 % 128) = 3 * (i 0).val + r.val
    omega

/-- A dequantized block at an element, is the element of `dlB`. -/
theorem chunk_apply (i : grid0.Coords) (r : Fin 3) (o : ℕ) (ho : o = 128 * r.val) (h : o + 128 ≤ 384) {X : S256x512.Idx → F .f32} {dls : S256x393.Idx → F .f32}
    (hs : ScaleOf X dls) (C : S256x384.Idx → F .fp8e5m2) (x : S256x128.Idx) (y : S256x384.Idx) (h0 : (y 0).val = (x 0).val) (h1 : (y 1).val = o + (x 1).val) :
    chunk (rem128 (blkNo i r.val)) (scaleBlk i r X) (codeBlk o h C) x = dlB i C dls y := by
  have hx1 : (x 1).val < 128 := (x 1).isLt
  unfold chunk dlB
  rw [shapeCast_self]
  show FloatOps.mulf (FloatOps.extf .bf16 bitsLt_fp8e5m2_bf16 (codeBlk o h C x))
    (FloatOps.truncf .bf16 bitsLt_bf16_f32 (dynamicGather 1 (scaleBlk i r X) (laneVec (rem128 (blkNo i r.val))) x)) = _
  rw [gather_scale i r hs]
  have e1 : codeBlk o h C x = C y := congrArg C (funext fun a => Fin.ext (by
    fin_cases a
    · exact h0.symm
    · exact h1.symm))
  rw [e1]
  refine congrArg (fun z => FloatOps.mulf _ (FloatOps.truncf .bf16 bitsLt_bf16_f32 (dls z))) (funext fun a => Fin.ext ?_)
  fin_cases a
  · exact h0.symm
  · show 3 * (i 0).val + r.val = 3 * (i 0).val + (y 1).val / 128
    omega

/-- The three blocks side by side are the dequantized 384 columns. -/
theorem concat_eq (i : grid0.Coords) {X : S256x512.Idx → F .f32} {dls : S256x393.Idx → F .f32} (hs : ScaleOf X dls) (C : S256x384.Idx → F .fp8e5m2) :
    concatenate S256x384 1 [⟨S256x128, chunk (rem128 (blkNo i 0)) (scaleBlk i 0 X) (codeBlk 0 (by decide) C)⟩,
        ⟨S256x128, chunk (rem128 (blkNo i 1)) (scaleBlk i 1 X) (codeBlk 128 (by decide) C)⟩,
        ⟨S256x128, chunk (rem128 (blkNo i 2)) (scaleBlk i 2 X) (codeBlk 256 (by decide) C)⟩] concatenates_S256x128_S256x128_S256x128_S256x384_d1
      = dlB i C dls := by
  funext y
  have hy : (y 1).val < 384 := (y 1).isLt
  have piece : ∀ (k : ℕ) (hk : k < 3), 128 * k ≤ (y 1).val → (y 1).val < 128 * k + 128 → ∃ x : S256x128.Idx, (y 0).val = (x 0).val ∧ (y 1).val = 128 * k + (x 1).val :=
    fun k hk h1 h2 => ⟨ix2 (y 0) (⟨(y 1).val - 128 * k, by omega⟩ : Fin 128), rfl, by show (y 1).val = 128 * k + ((y 1).val - 128 * k); omega⟩
  have hb : ∀ (x : S256x128.Idx), (y 0).val = (x 0).val → ∀ b : Fin 2, b ≠ 1 → (x b).val = (y b).val := fun x hx b hne => by
    fin_cases b
    · exact hx.symm
    · exact absurd rfl hne
  by_cases c0 : (y 1).val < 128
  · obtain ⟨x, hx0, hx1⟩ := piece 0 (by decide) (by omega) (by omega)
    rw [concatenate_apply_piece 1 _ _ y 0 (by show 0 < 3; omega) S256x128 _ rfl rfl 0 rfl x (hb x hx0) (by show 0 + (x 1).val = (y 1).val; omega)]
    exact chunk_apply i 0 0 rfl (by decide) hs C x y hx0 (by omega)
  by_cases c1 : (y 1).val < 256
  · obtain ⟨x, hx0, hx1⟩ := piece 1 (by decide) (by omega) (by omega)
    rw [concatenate_apply_piece 1 _ _ y 1 (by show 1 < 3; omega) S256x128 _ rfl rfl 128 rfl x (hb x hx0) (by show 128 + (x 1).val = (y 1).val; omega)]
    exact chunk_apply i 1 128 rfl (by decide) hs C x y hx0 (by omega)
  · obtain ⟨x, hx0, hx1⟩ := piece 2 (by decide) (by omega) (by omega)
    rw [concatenate_apply_piece 1 _ _ y 2 (by show 2 < 3; omega) S256x128 _ rfl rfl 256 rfl x (hb x hx0) (by show 256 + (x 1).val = (y 1).val; omega)]
    exact chunk_apply i 2 256 rfl (by decide) hs C x y hx0 (by omega)

/-- The tile of the embedding gradient before the tokens' rows: the point's columns, transposed, times the dequantized hidden states. -/
def deDot (i : grid0.Coords) (C : S256x384.Idx → F .fp8e5m2) (dls : S256x393.Idx → F .f32) (hh : S256x2560.Idx → F .bf16) : FVec F S384x2560 .f32 :=
  matmul dot_S384x256_S256x2560_S384x2560_1_0_0_1_n_n none (transpose S384x256 [1, 0] (dlB i C dls) transposes_S256x384_p1_0_S384x256) hh
    (constant S384x2560 .f32 0x00000000#32)

/-- The point's columns times their rows' scales, in bf16. -/
def dleB (i : grid0.Coords) (C : S256x384.Idx → F .fp8e5m2) (dls : S256x393.Idx → F .f32) (es : S1x1x384.Idx → F .f32) : FVec F S256x384 .bf16 :=
  mulf (dlB i C dls) (broadcastTo S256x384 (truncf .bf16 (shapeCast S1x384 es shapeCasts_S1x1x384_S1x384) bitsLt_bf16_f32) broadcasts_S1x384_S256x384)

/-- The printed lane of the first block. -/
theorem pay9_eq (i : grid0.Coords) : k0_pay9 i = broadcast S256x128 (rem128 (blkNo i 0)) := rfl

/-- The words the third part hands on for the second block. -/
theorem pay12_eq (i : grid0.Coords) {X : S256x512.Idx → F .f32} {dls : S256x393.Idx → F .f32} (hs : ScaleOf X dls) (C : S256x384.Idx → F .fp8e5m2) :
    k0_pay12 k0_pay8
        (k0_pay10 k0_pay8 (scaleBlk i 0 X) (k0_pay9 i) (codeBlk 0 (by decide) C))
        (k0_pay11 k0_pay8 (scaleBlk i 1 X) (Scalar.select (Scalar.cmpi .eq 128#32 0#32) 1#32 128#32)
          (Scalar.remsi (blkNo i 1) (Scalar.select (Scalar.cmpi .eq 128#32 0#32) 1#32 128#32))
          (Scalar.cmpi .ne (Scalar.remsi (blkNo i 1) (Scalar.select (Scalar.cmpi .eq 128#32 0#32) 1#32 128#32)) 0#32) (codeBlk 128 (by decide) C))
        (blkNo i 2) (scaleBlk i 2 X) (codeBlk 256 (by decide) C)
      = dlB i C dls := concat_eq i hs C

/-- The printed product, over the loads as they stand, is the tile before the tokens' rows. -/
theorem pay13_eq (i : grid0.Coords) {X : S256x512.Idx → F .f32} {dls : S256x393.Idx → F .f32} (hs : ScaleOf X dls) (C : S256x384.Idx → F .fp8e5m2)
    (hh : S256x2560.Idx → F .bf16) :
    k0_pay13 k0_pay8
        (k0_pay10 k0_pay8 (scaleBlk i 0 X) (k0_pay9 i) (codeLd 0 inb_S256x384_S256x128_0_0 C))
        (k0_pay11 k0_pay8 (scaleBlk i 1 X) (Scalar.select (Scalar.cmpi .eq 128#32 0#32) 1#32 128#32)
          (Scalar.remsi (blkNo i 1) (Scalar.select (Scalar.cmpi .eq 128#32 0#32) 1#32 128#32))
          (Scalar.cmpi .ne (Scalar.remsi (blkNo i 1) (Scalar.select (Scalar.cmpi .eq 128#32 0#32) 1#32 128#32)) 0#32)
          (codeLd 128 inb_S256x384_S256x128_0_128 C))
        (blkNo i 2) (scaleBlk i 2 X) (codeLd 256 inb_S256x384_S256x128_0_256 C) hh
      = deDot i C dls hh := by
  rw [codeBlk_eq 0 (by decide) C inb_S256x384_S256x128_0_0, codeBlk_eq 128 (by decide) C inb_S256x384_S256x128_0_128,
    codeBlk_eq 256 (by decide) C inb_S256x384_S256x128_0_256]
  unfold k0_pay13
  rw [pay12_eq i hs C]
  rfl

/-- The printed scaled columns, over the loads as they stand. -/
theorem pay14_eq (i : grid0.Coords) {X : S256x512.Idx → F .f32} {dls : S256x393.Idx → F .f32} (hs : ScaleOf X dls) (C : S256x384.Idx → F .fp8e5m2)
    (es : S1x1x384.Idx → F .f32) :
    k0_pay14 k0_pay8
        (k0_pay10 k0_pay8 (scaleBlk i 0 X) (k0_pay9 i) (codeLd 0 inb_S256x384_S256x128_0_0 C))
        (k0_pay11 k0_pay8 (scaleBlk i 1 X) (Scalar.select (Scalar.cmpi .eq 128#32 0#32) 1#32 128#32)
          (Scalar.remsi (blkNo i 1) (Scalar.select (Scalar.cmpi .eq 128#32 0#32) 1#32 128#32))
          (Scalar.cmpi .ne (Scalar.remsi (blkNo i 1) (Scalar.select (Scalar.cmpi .eq 128#32 0#32) 1#32 128#32)) 0#32)
          (codeLd 128 inb_S256x384_S256x128_0_128 C))
        (blkNo i 2) (scaleBlk i 2 X) (codeLd 256 inb_S256x384_S256x128_0_256 C) es
      = dleB i C dls es := by
  rw [codeBlk_eq 0 (by decide) C inb_S256x384_S256x128_0_0, codeBlk_eq 128 (by decide) C inb_S256x384_S256x128_0_128,
    codeBlk_eq 256 (by decide) C inb_S256x384_S256x128_0_256]
  unfold k0_pay14
  rw [pay12_eq i hs C]
  rfl

end Cert.Kernel.Hand

end
-- ==== Proof.Bits.Body.lean ====
/-
  The kernel's body at one grid point: the prologue's two counted loops, the straight line that reads the point's blocks, and the walk,
  run once from the contents the point finds.
-/
module

public import proofs.«01_k».proof.Proof.Bits.Tile

@[expose] public section

set_option maxRecDepth 16384

noncomputable section

namespace Cert.Kernel.Hand

open Cert.Kernel Cert.Kernel.Gen Cert.Chain
open Idealize.ShloMosaic Idealize.ShloMosaic.TcCoe Idealize.ShloMosaic.Tactic Idealize.ShloMosaic.Held
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The links of all tiles, over the two tables' contents. -/
def LinksOf (I : S256.Idx → BitVec 32) (S : S1.Idx → BitVec 32) (k : ℕ) (H : S131.Idx → BitVec 32) (N : S256.Idx → BitVec 32) : Prop :=
  Links (fun t => tileOf (S (ix1 0)) (I (ix1 t))) k (fun j => H (ix1 j)) (fun t => N (ix1 t))

/-- One token put into its tile's list, or left out, as the two tables' stores do it. -/
theorem linksOf_hit {I : S256.Idx → BitVec 32} {S : S1.Idx → BitVec 32} {H : S131.Idx → BitVec 32} {N : S256.Idx → BitVec 32} {k : ℕ} (hk : k < 256)
    (h : LinksOf I S k H N) (hit : (I (ix1 ⟨255 - k, by omega⟩) - S (ix1 0)).toNat < 50304) {off3 off4 : Fin 1 → ℕ} {w : BitVec 32}
    (h3 : off3 = ![tileOf (S (ix1 0)) (I (ix1 ⟨255 - k, by omega⟩))]) (h4 : off4 = ![255 - k]) (hw : w = BitVec.ofNat 32 (255 - k)) :
    LinksOf I S (k + 1) (VecWindow.put (s := S131) H off3 ![1] (fun _ => w))
      (VecWindow.put (s := S256) N off4 ![1] (fun _ => H (ix1 ⟨tileOf (S (ix1 0)) (I (ix1 ⟨255 - k, by omega⟩)), by unfold tileOf; omega⟩))) := by
  subst hw
  refine Links.hit hk h ⟨tileOf (S (ix1 0)) (I (ix1 ⟨255 - k, by omega⟩)), by unfold tileOf; omega⟩ rfl (fun j => ?_) (fun t => ?_)
  · exact put_word H _ j h3 _
  · exact put_word N ⟨255 - k, by omega⟩ t h4 _

/-- The counted loop, as the program spells it. -/
theorem wp_loop (c : Dev nD) (l : Scf.Loop 32) (hok : l.OK) (body : Fin l.trips → Unit → Prog (TpuEff nD τ sig (Elt F) (Λ₀ F) .tc) Unit) (J : ℕ → sProp 𝕄)
    (hbody : ∀ (k : Fin l.trips) (acc : Unit), J k.val ⊢ wp frame (wpE (defs₀ (F := F)) 𝒱₀ (c : Thread nD τ) none) Set.univ (body k acc) (fun _ => J (k.val + 1))) (Q : Unit → sProp 𝕄) :
    J 0 ⊢ iprop((J l.trips -∗ Q ⟨⟩) -∗ wp frame (wpE (defs₀ (F := F)) 𝒱₀ (c : Thread nD τ) none) Set.univ (Scf.Loop.for l hok ⟨⟩ body) Q) := by
  have := Scf.wp_for frame (wpE (defs₀ (F := F)) 𝒱₀ (c : Thread nD τ) none) Set.univ l.lb l.ub l.st hok ⟨⟩ body (fun k _ => J k) hbody (Q := Q)
  iintro H Hk
  iapply this
  isplitl [H]; · iexact H
  iintro %acc H
  iapply Hk
  iexact H

section Body

variable (c : Dev nD) (i : grid0.Coords)
  (arg1 : Memref sig .tc .smem S256 .i32) (harg1 : arg1.IsWhole)
  (arg2 : Memref sig .tc .smem S1 .i32) (harg2 : arg2.IsWhole)
  (arg3 : Memref sig .tc .vmem S256x384 .fp8e5m2) (harg3 : arg3.IsWhole)
  (arg4 : Memref sig .tc .vmem S256x393 .f32) (harg4 : arg4.IsWhole)
  (arg5 : Memref sig .tc .vmem S256x2560 .fp8e4m3) (harg5 : arg5.IsWhole)
  (arg6 : Memref sig .tc .vmem S256x1 .f32) (harg6 : arg6.IsWhole)
  (arg7 : Memref sig .tc .vmem S384x2560 .i8) (harg7 : arg7.IsWhole)
  (arg8 : Memref sig .tc .vmem S1x1x384 .f32) (harg8 : arg8.IsWhole)
  (arg9 : Memref sig .tc .vmem S256x2560 .bf16) (harg9 : arg9.IsWhole)
  (arg10 : Memref sig .tc .vmem S384x2560 .f32) (harg10 : arg10.IsWhole)
  (arg11 : Memref sig .tc .vmem S256x2560 .bf16) (harg11 : arg11.IsWhole)
  (arg12 : Memref sig .tc .vmem S256x512 .f32) (harg12 : arg12.IsWhole)
  (arg13 : Memref sig .tc .vmem S256x2560 .bf16) (harg13 : arg13.IsWhole)
  (arg14 : Memref sig .tc .vmem S256x2560 .f32) (harg14 : arg14.IsWhole)
  (arg15 : Memref sig .tc .vmem S256x2560 .f32) (harg15 : arg15.IsWhole)
  (arg16 : Memref sig .tc .smem S131 .i32) (harg16 : arg16.IsWhole)
  (arg17 : Memref sig .tc .smem S256 .i32) (harg17 : arg17.IsWhole)

section Prologue

variable (h1 : k0_cond1 i = 1#1) (I : S256.Idx → BitVec 32) (S : S1.Idx → BitVec 32)

/-- The first loop sets every head to minus one. -/
def J1 (k : ℕ) : sProp 𝕄 := iprop(∃ H : S131.Idx → BitVec 32, ⌜∀ j : Fin 131, j.val < k → H (ix1 j) = 4294967295#32⌝ ∗ owns (c : Thread nD τ) arg16 fullShare H)

theorem step1 (k : Fin k0_t1_loop.trips) (acc : Unit) :
    (J1 c arg16 k.val : sProp 𝕄) ⊢ wp frame (wpE (defs₀ (F := F)) 𝒱₀ (c : Thread nD τ) none) Set.univ (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 k acc) (fun _ => J1 c arg16 (k.val + 1)) := by
  have hk : k.val < 131 := lt_of_lt_of_eq k.isLt trips1
  unfold k0_t1_body J1
  simp only [Prog.lift, Prog.bind_op, Prog.bind_ret, Prog.pure_eq_ret, smemLoad, smemLoadElt]
  iintro ⟨%H, %hH, H16⟩
  iapply (Held.wp_word 𝒱₀ (c : Thread nD τ) none Set.univ ⟨k.val, hk⟩ (k0_off1_eq k)) $$ H16; iintro H16
  iapply (Held.wp_store 𝒱₀ (c : Thread nD τ) none Set.univ) $$ H16; iintro H16
  rw [wp_ret]; imodintro
  iexists _
  isplitr; swap
  · iexact H16
  ipureintro
  intro j hj
  refine (put_word H ⟨k.val, hk⟩ j (k0_off1_eq k) _).trans ?_
  by_cases hjk : j = ⟨k.val, hk⟩
  · rw [if_pos hjk]
  · rw [if_neg hjk]
    have hne : j.val ≠ k.val := fun e => hjk (Fin.ext e)
    exact hH j (by omega)

/-- The second loop links the tokens, last to first. -/
def J2 (k : ℕ) : sProp 𝕄 := iprop(owns (c : Thread nD τ) arg1 fullShare I
  ∗ ∃ (H : S131.Idx → BitVec 32) (N : S256.Idx → BitVec 32), ⌜LinksOf I S k H N⌝ ∗ owns (c : Thread nD τ) arg16 fullShare H ∗ owns (c : Thread nD τ) arg17 fullShare N)

theorem step2 (k : Fin k0_t2_loop.trips) (acc : Unit) :
    (J2 c arg1 arg16 arg17 I S k.val : sProp 𝕄) ⊢ wp frame (wpE (defs₀ (F := F)) 𝒱₀ (c : Thread nD τ) none) Set.univ (k0_t2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 (S (ix1 0)) k acc) (fun _ => J2 c arg1 arg16 arg17 I S (k.val + 1)) := by
  have hk : k.val < 256 := lt_of_lt_of_eq k.isLt trips2
  unfold k0_t2_body J2
  simp only [Prog.lift, Prog.bind_op, Prog.bind_ret, Prog.pure_eq_ret, smemLoad, smemLoadElt]
  iintro ⟨H1, ⟨%H, %N, %hL, H16, H17⟩⟩
  iapply (Held.wp_word 𝒱₀ (c : Thread nD τ) none Set.univ ⟨255 - k.val, by omega⟩ (k0_off2_eq k)) $$ H1; iintro H1
  iapply (wp_assume 𝒱₀ (c : Thread nD τ) none Set.univ (chk1 i _ _))
  by_cases h2 : k0_cond2 (S (ix1 0)) (I (ix1 ⟨255 - k.val, by omega⟩)) = 1#1
  · have hit := (cond2_iff _ _).mp h2
    have hT : tileOf (S (ix1 0)) (I (ix1 ⟨255 - k.val, by omega⟩)) < 131 := by unfold tileOf; omega
    simp only [h2, ↓reduceDIte, Prog.bind_op, Prog.bind_ret]
    iapply (Held.wp_word 𝒱₀ (c : Thread nD τ) none Set.univ (⟨_, hT⟩ : Fin 131) (off3_eq _ _ hit)) $$ H16; iintro H16
    iapply (Held.wp_word 𝒱₀ (c : Thread nD τ) none Set.univ ⟨255 - k.val, by omega⟩ (k0_off4_eq k)) $$ H17; iintro H17
    iapply (Held.wp_store 𝒱₀ (c : Thread nD τ) none Set.univ) $$ H17; iintro H17
    iapply (Held.wp_word 𝒱₀ (c : Thread nD τ) none Set.univ (⟨_, hT⟩ : Fin 131) (off3_eq _ _ hit)) $$ H16; iintro H16
    iapply (Held.wp_store 𝒱₀ (c : Thread nD τ) none Set.univ) $$ H16; iintro H16
    rw [wp_ret]; imodintro
    isplitl [H1]; · iexact H1
    iexists _, _
    isplitr; swap
    · isplitl [H16]; · iexact H16
      iexact H17
    ipureintro
    exact linksOf_hit hk hL hit (off3_eq _ _ hit) (k0_off4_eq k) (trip_word k)
  · have hmiss : ¬ (I (ix1 ⟨255 - k.val, by omega⟩) - S (ix1 0)).toNat < 50304 := fun h => h2 ((cond2_iff _ _).mpr h)
    simp only [h2, ↓reduceDIte, Prog.bind_ret]
    rw [wp_ret]; imodintro
    isplitl [H1]; · iexact H1
    iexists H, N
    isplitr; swap
    · isplitl [H16]; · iexact H16
      iexact H17
    ipureintro
    exact Links.miss hL (by show 131 ≤ tileOf _ _; unfold tileOf; omega)

variable (dls : S256x393.Idx → F .f32) (hc : S256x2560.Idx → F .fp8e4m3) (hs : S256x1.Idx → F .f32) (de : S256x2560.Idx → F .bf16)

/-- The prologue: from scratch at anything, the scratch holds the scales, the dequantized hidden states, the widened embedding
    gradient, zeros, and the links. -/
theorem part1_run (K : PUnit → sProp 𝕄) :
    iprop(owns (c : Thread nD τ) arg1 fullShare I ∗ owns (c : Thread nD τ) arg2 fullShare S ∗ owns (c : Thread nD τ) arg4 fullShare dls ∗ owns (c : Thread nD τ) arg5 fullShare hc ∗ owns (c : Thread nD τ) arg6 fullShare hs ∗ owns (c : Thread nD τ) arg9 fullShare de
        ∗ (∃ X : S256x512.Idx → F .f32, owns (c : Thread nD τ) arg12 fullShare X) ∗ (∃ X : S256x2560.Idx → F .bf16, owns (c : Thread nD τ) arg13 fullShare X) ∗ (∃ X : S256x2560.Idx → F .f32, owns (c : Thread nD τ) arg14 fullShare X)
        ∗ (∃ X : S256x2560.Idx → F .f32, owns (c : Thread nD τ) arg15 fullShare X) ∗ (∃ X : S131.Idx → BitVec 32, owns (c : Thread nD τ) arg16 fullShare X) ∗ (∃ X : S256.Idx → BitVec 32, owns (c : Thread nD τ) arg17 fullShare X)
        ∗ (∀ (X : S256x512.Idx → F .f32) (H : S131.Idx → BitVec 32) (N : S256.Idx → BitVec 32), ⌜ScaleOf X dls ∧ LinksOf I S 256 H N⌝ -∗
            iprop(owns (c : Thread nD τ) arg1 fullShare I ∗ owns (c : Thread nD τ) arg2 fullShare S ∗ owns (c : Thread nD τ) arg4 fullShare dls ∗ owns (c : Thread nD τ) arg5 fullShare hc ∗ owns (c : Thread nD τ) arg6 fullShare hs ∗ owns (c : Thread nD τ) arg9 fullShare de ∗ owns (c : Thread nD τ) arg12 fullShare X ∗ owns (c : Thread nD τ) arg13 fullShare (k0_pay5 hc hs) ∗ owns (c : Thread nD τ) arg14 fullShare (k0_pay6 de) ∗ owns (c : Thread nD τ) arg15 fullShare k0_pay7 ∗ owns (c : Thread nD τ) arg16 fullShare H ∗ owns (c : Thread nD τ) arg17 fullShare N) -∗ K ⟨⟩))
      ⊢ wp frame (wpE (defs₀ (F := F)) 𝒱₀ (c : Thread nD τ) none) Set.univ (k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1) K := by
  simp only [k0_part1_eq_skeleton]; unfold k0_part1_skel
  simp only [Prog.lift, Prog.bind_op, Prog.bind_ret, Prog.pure_eq_ret, smemLoad, smemLoadElt]
  iintro ⟨H1, H2, H4, H5, H6, H9, ⟨%X12, H12⟩, ⟨%X13, H13⟩, ⟨%X14, H14⟩, ⟨%X15, H15⟩, ⟨%X16, H16⟩, ⟨%X17, H17⟩, Hk⟩
  iapply (Held.wp_load_full 𝒱₀ (c : Thread nD τ) none Set.univ) $$ H4; iintro H4
  iapply (Held.wp_load 𝒱₀ (c : Thread nD τ) none Set.univ) $$ H12; iintro H12
  iapply (Held.wp_store 𝒱₀ (c : Thread nD τ) none Set.univ) $$ H12; iintro H12
  iapply (Held.wp_load_full 𝒱₀ (c : Thread nD τ) none Set.univ) $$ H5; iintro H5
  iapply (Held.wp_load_full 𝒱₀ (c : Thread nD τ) none Set.univ) $$ H6; iintro H6
  iapply (Held.wp_load_full 𝒱₀ (c : Thread nD τ) none Set.univ) $$ H13; iintro H13
  iapply (Held.wp_store_full 𝒱₀ (c : Thread nD τ) none Set.univ) $$ H13; iintro H13
  iapply (Held.wp_load_full 𝒱₀ (c : Thread nD τ) none Set.univ) $$ H9; iintro H9
  iapply (Held.wp_load_full 𝒱₀ (c : Thread nD τ) none Set.univ) $$ H14; iintro H14
  iapply (Held.wp_store_full 𝒱₀ (c : Thread nD τ) none Set.univ) $$ H14; iintro H14
  iapply (Held.wp_load_full 𝒱₀ (c : Thread nD τ) none Set.univ) $$ H15; iintro H15
  iapply (Held.wp_store_full 𝒱₀ (c : Thread nD τ) none Set.univ) $$ H15; iintro H15
  iapply (Held.wp_word 𝒱₀ (c : Thread nD τ) none Set.univ (0 : Fin 1) rfl) $$ H2; iintro H2
  rw [wp_bind]
  ihave HJ : (J1 c arg16 0 : sProp 𝕄) $$ [H16]
  · unfold J1
    iexists X16
    isplitr; swap
    · iexact H16
    ipureintro
    intro j hj
    exact absurd hj (Nat.not_lt_zero _)
  iapply (wp_loop c k0_t1_loop (k0_t1_ok i h1) _ (fun k => J1 c arg16 k) (fun k acc => step1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 k acc) _) $$ HJ
  unfold J1
  iintro ⟨%H0, %hH0, H16⟩
  rw [wp_bind]
  ihave HJ : (J2 c arg1 arg16 arg17 I S 0 : sProp 𝕄) $$ [H1 H16 H17]
  · unfold J2
    isplitl [H1]; · iexact H1
    iexists H0, X17
    isplitr; swap
    · isplitl [H16]; · iexact H16
      iexact H17
    ipureintro
    exact links_zero _ _ _ (fun j => hH0 j (by rw [trips1]; exact j.isLt))
  iapply (wp_loop c k0_t2_loop (k0_t2_ok i h1) _ (fun k => J2 c arg1 arg16 arg17 I S k) (fun k acc => step2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 I S k acc) _) $$ HJ
  unfold J2
  iintro ⟨H1, ⟨%H, %N, %hL, H16, H17⟩⟩
  rw [wp_ret]; imodintro
  iapply Hk $$ %_ %H %N
  · ipureintro
    exact ⟨scaleOf_put X12 dls, by rw [trips2] at hL; exact hL⟩
  isplitl [H1]; · iexact H1
  isplitl [H2]; · iexact H2
  isplitl [H4]; · iexact H4
  isplitl [H5]; · iexact H5
  isplitl [H6]; · iexact H6
  isplitl [H9]; · iexact H9
  isplitl [H12]; · iexact H12
  isplitl [H13]; · iexact H13
  isplitl [H14]; · iexact H14
  isplitl [H15]; · iexact H15
  isplitl [H16]; · iexact H16
  iexact H17

end Prologue

/-- What the prologue leaves and every point finds: the ids, the first row and the prologue's blocks, the scales, the dequantized hidden
    states, the widened embedding gradient, the running sum at `A`, and the links. -/
def Mid (I : S256.Idx → BitVec 32) (S : S1.Idx → BitVec 32) (dls : S256x393.Idx → F .f32) (hc : S256x2560.Idx → F .fp8e4m3) (hs : S256x1.Idx → F .f32)
    (de : S256x2560.Idx → F .bf16) (A : S256x2560.Idx → F .f32) (X : S256x512.Idx → F .f32) (H : S131.Idx → BitVec 32) (N : S256.Idx → BitVec 32) : sProp 𝕄 :=
  iprop(owns (c : Thread nD τ) arg1 fullShare I ∗ owns (c : Thread nD τ) arg2 fullShare S ∗ owns (c : Thread nD τ) arg4 fullShare dls ∗ owns (c : Thread nD τ) arg5 fullShare hc ∗ owns (c : Thread nD τ) arg6 fullShare hs ∗ owns (c : Thread nD τ) arg9 fullShare de ∗ owns (c : Thread nD τ) arg12 fullShare X ∗ owns (c : Thread nD τ) arg13 fullShare (k0_pay5 hc hs) ∗ owns (c : Thread nD τ) arg14 fullShare (k0_pay6 de) ∗ owns (c : Thread nD τ) arg15 fullShare A ∗ owns (c : Thread nD τ) arg16 fullShare H ∗ owns (c : Thread nD τ) arg17 fullShare N)

section Run

variable (I : S256.Idx → BitVec 32) (S : S1.Idx → BitVec 32) (dls : S256x393.Idx → F .f32) (hc : S256x2560.Idx → F .fp8e4m3) (hs : S256x1.Idx → F .f32)
  (de : S256x2560.Idx → F .bf16) (A : S256x2560.Idx → F .f32)

/-- The first part at the first point: the prologue, then the first block of scales. -/
theorem part2_first (h1 : k0_cond1 i = 1#1) (K : (Σ' (_ : BitVec 32) (_ : IVec S256x128 32) (_ : Vec F S256x128 .f32), IVec S256x128 32) → sProp 𝕄) :
    iprop(iprop(owns (c : Thread nD τ) arg1 fullShare I ∗ owns (c : Thread nD τ) arg2 fullShare S ∗ owns (c : Thread nD τ) arg4 fullShare dls ∗ owns (c : Thread nD τ) arg5 fullShare hc ∗ owns (c : Thread nD τ) arg6 fullShare hs ∗ owns (c : Thread nD τ) arg9 fullShare de
        ∗ (∃ X : S256x512.Idx → F .f32, owns (c : Thread nD τ) arg12 fullShare X) ∗ (∃ X : S256x2560.Idx → F .bf16, owns (c : Thread nD τ) arg13 fullShare X) ∗ (∃ X : S256x2560.Idx → F .f32, owns (c : Thread nD τ) arg14 fullShare X)
        ∗ (∃ X : S256x2560.Idx → F .f32, owns (c : Thread nD τ) arg15 fullShare X) ∗ (∃ X : S131.Idx → BitVec 32, owns (c : Thread nD τ) arg16 fullShare X) ∗ (∃ X : S256.Idx → BitVec 32, owns (c : Thread nD τ) arg17 fullShare X))
        ∗ (∀ (X : S256x512.Idx → F .f32) (H : S131.Idx → BitVec 32) (N : S256.Idx → BitVec 32), ⌜ScaleOf X dls ∧ LinksOf I S 256 H N⌝ -∗
            (Mid c arg1 arg2 arg4 arg5 arg6 arg9 arg12 arg13 arg14 arg15 arg16 arg17 I S dls hc hs de k0_pay7 X H N) -∗ K ⟨BitVec.ofNat 32 (i 0).val, k0_pay8, scaleBlk i 0 X, k0_pay9 i⟩))
      ⊢ wp frame (wpE (defs₀ (F := F)) 𝒱₀ (c : Thread nD τ) none) Set.univ (k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [k0_part2_eq_skeleton]; unfold k0_part2_skel
  simp only [h1, ↓reduceDIte]
  rw [wp_bind, wp_bind]
  iintro ⟨⟨H1, H2, H4, H5, H6, H9, H12, H13, H14, H15, H16, H17⟩, Hk⟩
  iapply (part1_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 I S dls hc hs de _)
  isplitl [H1]; · iexact H1
  isplitl [H2]; · iexact H2
  isplitl [H4]; · iexact H4
  isplitl [H5]; · iexact H5
  isplitl [H6]; · iexact H6
  isplitl [H9]; · iexact H9
  isplitl [H12]; · iexact H12
  isplitl [H13]; · iexact H13
  isplitl [H14]; · iexact H14
  isplitl [H15]; · iexact H15
  isplitl [H16]; · iexact H16
  isplitl [H17]; · iexact H17

  iintro %X %H %N %hX ⟨H1, H2, H4, H5, H6, H9, H12, H13, H14, H15, H16, H17⟩
  simp only [Prog.pure_eq_ret, Prog.lift, Prog.bind_op, Prog.bind_ret]
  iapply (Held.wp_load 𝒱₀ (c : Thread nD τ) none Set.univ) $$ H12; iintro H12
  rw [wp_ret]; imodintro
  rw [wp_ret]; imodintro
  ihave HK : iprop(K ⟨BitVec.ofNat 32 (i 0).val, k0_pay8, scaleBlk i 0 X, k0_pay9 i⟩) $$ [- ]
  · iapply Hk $$ %X %H %N
    · ipureintro; exact hX
    unfold Mid
    isplitl [H1]; · iexact H1
    isplitl [H2]; · iexact H2
    isplitl [H4]; · iexact H4
    isplitl [H5]; · iexact H5
    isplitl [H6]; · iexact H6
    isplitl [H9]; · iexact H9
    isplitl [H12]; · iexact H12
    isplitl [H13]; · iexact H13
    isplitl [H14]; · iexact H14
    isplitl [H15]; · iexact H15
    isplitl [H16]; · iexact H16
    iexact H17

  istop; refine BIBase.Entails.of_eq (congrArg K ?_)
  congr 3

/-- The first part at a later point: the first block of scales alone. -/
theorem part2_later (h1 : ¬ k0_cond1 i = 1#1) (K : (Σ' (_ : BitVec 32) (_ : IVec S256x128 32) (_ : Vec F S256x128 .f32), IVec S256x128 32) → sProp 𝕄) :
    iprop((∃ (X : S256x512.Idx → F .f32) (H : S131.Idx → BitVec 32) (N : S256.Idx → BitVec 32), ⌜ScaleOf X dls ∧ LinksOf I S 256 H N⌝ ∗ Mid c arg1 arg2 arg4 arg5 arg6 arg9 arg12 arg13 arg14 arg15 arg16 arg17 I S dls hc hs de A X H N)
        ∗ (∀ (X : S256x512.Idx → F .f32) (H : S131.Idx → BitVec 32) (N : S256.Idx → BitVec 32), ⌜ScaleOf X dls ∧ LinksOf I S 256 H N⌝ -∗
            (Mid c arg1 arg2 arg4 arg5 arg6 arg9 arg12 arg13 arg14 arg15 arg16 arg17 I S dls hc hs de A X H N) -∗ K ⟨BitVec.ofNat 32 (i 0).val, k0_pay8, scaleBlk i 0 X, k0_pay9 i⟩))
      ⊢ wp frame (wpE (defs₀ (F := F)) 𝒱₀ (c : Thread nD τ) none) Set.univ (k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [k0_part2_eq_skeleton]; unfold k0_part2_skel
  simp only [h1, ↓reduceDIte, Prog.pure_eq_ret, Prog.lift, Prog.bind_op, Prog.bind_ret]
  unfold Mid
  iintro ⟨⟨%X, %H, %N, %hX, H1, H2, H4, H5, H6, H9, H12, H13, H14, H15, H16, H17⟩, Hk⟩
  iapply (Held.wp_load 𝒱₀ (c : Thread nD τ) none Set.univ) $$ H12; iintro H12
  rw [wp_ret]; imodintro
  ihave HK : iprop(K ⟨BitVec.ofNat 32 (i 0).val, k0_pay8, scaleBlk i 0 X, k0_pay9 i⟩) $$ [- ]
  · iapply Hk $$ %X %H %N
    · ipureintro; exact hX
    isplitl [H1]; · iexact H1
    isplitl [H2]; · iexact H2
    isplitl [H4]; · iexact H4
    isplitl [H5]; · iexact H5
    isplitl [H6]; · iexact H6
    isplitl [H9]; · iexact H9
    isplitl [H12]; · iexact H12
    isplitl [H13]; · iexact H13
    isplitl [H14]; · iexact H14
    isplitl [H15]; · iexact H15
    isplitl [H16]; · iexact H16
    iexact H17

  istop; refine BIBase.Entails.of_eq (congrArg K ?_)
  congr 3

variable (C : S256x384.Idx → F .fp8e5m2) (e : S384x2560.Idx → BitVec 8) (es : S1x1x384.Idx → F .f32)

/-- The tile the point leaves: the product, with the rows of the tile's tokens added in the order of the links. -/
def deOut : S384x2560.Idx → F .f32 :=
  addRows (fun t => I (ix1 t)) (S (ix1 0)) (k0_pay6 de) (deDot i C dls (k0_pay5 hc hs)) (chain (fun t => tileOf (S (ix1 0)) (I (ix1 t))) 256 (i 0).val)

/-- The running sum the point leaves. -/
def accOut : S256x2560.Idx → F .f32 := k0_pay1 (dleB i C dls es) A e

/-- The whole body, from a first part that reaches the common state. -/
theorem body_run (P : sProp 𝕄)
    (hP : ∀ K : (Σ' (_ : BitVec 32) (_ : IVec S256x128 32) (_ : Vec F S256x128 .f32), IVec S256x128 32) → sProp 𝕄,
      iprop(P ∗ (∀ (X : S256x512.Idx → F .f32) (H : S131.Idx → BitVec 32) (N : S256.Idx → BitVec 32), ⌜ScaleOf X dls ∧ LinksOf I S 256 H N⌝ -∗
            (Mid c arg1 arg2 arg4 arg5 arg6 arg9 arg12 arg13 arg14 arg15 arg16 arg17 I S dls hc hs de A X H N) -∗ K ⟨BitVec.ofNat 32 (i 0).val, k0_pay8, scaleBlk i 0 X, k0_pay9 i⟩))
        ⊢ wp frame (wpE (defs₀ (F := F)) 𝒱₀ (c : Thread nD τ) none) Set.univ (k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K)
    (d11 : S256x2560.Idx → F .bf16) (K : PUnit → sProp 𝕄) :
    iprop(P ∗ owns (c : Thread nD τ) arg3 fullShare C ∗ owns (c : Thread nD τ) arg7 fullShare e ∗ owns (c : Thread nD τ) arg8 fullShare es
        ∗ (∃ Z : S384x2560.Idx → F .f32, owns (c : Thread nD τ) arg10 fullShare Z) ∗ owns (c : Thread nD τ) arg11 fullShare d11
        ∗ (∀ (X : S256x512.Idx → F .f32) (H : S131.Idx → BitVec 32) (N : S256.Idx → BitVec 32), ⌜ScaleOf X dls ∧ LinksOf I S 256 H N⌝ -∗
            iprop((Mid c arg1 arg2 arg4 arg5 arg6 arg9 arg12 arg13 arg14 arg15 arg16 arg17 I S dls hc hs de (accOut i dls A C e es) X H N) ∗ owns (c : Thread nD τ) arg3 fullShare C ∗ owns (c : Thread nD τ) arg7 fullShare e
              ∗ owns (c : Thread nD τ) arg8 fullShare es ∗ owns (c : Thread nD τ) arg10 fullShare (deOut i I S dls hc hs de C)
              ∗ owns (c : Thread nD τ) arg11 fullShare (if (i 0).val = 130 then k0_pay2 (accOut i dls A C e es) else d11)) -∗ K ⟨⟩))
      ⊢ wp frame (wpE (defs₀ (F := F)) 𝒱₀ (c : Thread nD τ) none) Set.univ (cc0_tied_embedding_backward i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_tied_embedding_backward_eq_skeleton]; unfold cc0_tied_embedding_backward_skel
  rw [wp_bind]
  iintro ⟨HP, H3, H7, H8, ⟨%Z, H10⟩, H11, Hk⟩
  iapply (hP _)
  isplitl [HP]; · iexact HP
  iintro %X %H %N %hX HM
  unfold Mid
  icases HM with ⟨H1, H2, H4, H5, H6, H9, H12, H13, H14, H15, H16, H17⟩
  simp only [k0_part3_eq_skeleton, k0_part4_eq_skeleton, k0_part5_eq_skeleton]
  unfold k0_part3_skel k0_part4_skel k0_part5_skel
  simp only [Prog.pure_eq_ret, Prog.lift, Prog.bind_op, Prog.bind_ret, smemLoad, smemLoadElt]
  iapply (Held.wp_load 𝒱₀ (c : Thread nD τ) none Set.univ) $$ H3; iintro H3
  iapply (Held.wp_load 𝒱₀ (c : Thread nD τ) none Set.univ) $$ H12; iintro H12
  iapply (Held.wp_load 𝒱₀ (c : Thread nD τ) none Set.univ) $$ H3; iintro H3
  iapply (Held.wp_load 𝒱₀ (c : Thread nD τ) none Set.univ) $$ H12; iintro H12
  iapply (Held.wp_load 𝒱₀ (c : Thread nD τ) none Set.univ) $$ H3; iintro H3
  iapply (Held.wp_load_full 𝒱₀ (c : Thread nD τ) none Set.univ) $$ H13; iintro H13
  iapply (Held.wp_load_full 𝒱₀ (c : Thread nD τ) none Set.univ) $$ H10; iintro H10
  iapply (Held.wp_store_full 𝒱₀ (c : Thread nD τ) none Set.univ) $$ H10; iintro H10
  iapply (Held.wp_load_full 𝒱₀ (c : Thread nD τ) none Set.univ) $$ H8; iintro H8
  iapply (Held.wp_load_full 𝒱₀ (c : Thread nD τ) none Set.univ) $$ H15; iintro H15
  iapply (Held.wp_load_full 𝒱₀ (c : Thread nD τ) none Set.univ) $$ H7; iintro H7
  iapply (Held.wp_load_full 𝒱₀ (c : Thread nD τ) none Set.univ) $$ H15; iintro H15
  iapply (Held.wp_store_full 𝒱₀ (c : Thread nD τ) none Set.univ) $$ H15; iintro H15
  iapply (Held.wp_word 𝒱₀ (c : Thread nD τ) none Set.univ (⟨(i 0).val, (i 0).isLt⟩ : Fin 131) (k0_off6_eq i)) $$ H16; iintro H16
  iapply (wp_call_spec 𝒱₀ (c : Thread nD τ) none Set.univ
    (spec c arg1 arg2 arg10 arg14 arg17 I S (k0_pay6 de) N (deDot i C dls (k0_pay5 hc hs)) (chain (fun t => tileOf (S (ix1 0)) (I (ix1 t))) 256 (i 0).val))
    (chain (fun t => tileOf (S (ix1 0)) (I (ix1 t))) 256 (i 0).val).length (fun u hu => nomatch hu)
    (spec_le c i arg1 harg1 arg2 harg2 arg10 harg10 arg14 harg14 arg17 harg17 I S (k0_pay6 de) N Set.univ _ _ _
      (fun t ht => tile_of_mem_chain ht) (hX.2 ⟨(i 0).val, (i 0).isLt⟩)))
  rw [spec_apply]; unfold held
  isplitl [H1 H2 H10 H14 H17]
  · isplitl [H1]; · iexact H1
    isplitl [H2]; · iexact H2
    isplitl [H10]
    · rw [← pay13_eq i hX.1 C (k0_pay5 hc hs)]
      iexact H10
    isplitl [H14]; · iexact H14
    iexact H17
  iintro %r ⟨H1, H2, H10, H14, H17⟩
  ihave H15 : (owns (c : Thread nD τ) arg15 fullShare (accOut i dls A C e es) : sProp 𝕄) $$ [H15]
  · unfold accOut
    rw [← pay14_eq i hX.1 C es]
    iexact H15
  by_cases h3 : k0_cond3 i = 1#1
  · simp only [h3, ↓reduceDIte, Prog.bind_op, Prog.bind_ret]
    iapply (Held.wp_load_full 𝒱₀ (c : Thread nD τ) none Set.univ) $$ H15; iintro H15
    iapply (Held.wp_load_full 𝒱₀ (c : Thread nD τ) none Set.univ) $$ H11; iintro H11
    iapply (Held.wp_store_full 𝒱₀ (c : Thread nD τ) none Set.univ) $$ H11; iintro H11
    rw [wp_ret]; imodintro
    iapply Hk $$ %X %H %N
    · ipureintro; exact hX
    rw [if_pos ((cond3_iff i).mp h3)]
    isplitl [H1 H2 H4 H5 H6 H9 H12 H13 H14 H15 H16 H17]
    · isplitl [H1]; · iexact H1
      isplitl [H2]; · iexact H2
      isplitl [H4]; · iexact H4
      isplitl [H5]; · iexact H5
      isplitl [H6]; · iexact H6
      isplitl [H9]; · iexact H9
      isplitl [H12]; · iexact H12
      isplitl [H13]; · iexact H13
      isplitl [H14]; · iexact H14
      isplitl [H15]; · iexact H15
      isplitl [H16]; · iexact H16
      iexact H17
    isplitl [H3]; · iexact H3
    isplitl [H7]; · iexact H7
    isplitl [H8]; · iexact H8
    isplitl [H10]; · iexact H10
    iexact H11

  · simp only [h3, ↓reduceDIte, Prog.bind_op, Prog.bind_ret]
    rw [wp_ret]; imodintro
    iapply Hk $$ %X %H %N
    · ipureintro; exact hX
    rw [if_neg fun h => h3 ((cond3_iff i).mpr h)]
    isplitl [H1 H2 H4 H5 H6 H9 H12 H13 H14 H15 H16 H17]
    · isplitl [H1]; · iexact H1
      isplitl [H2]; · iexact H2
      isplitl [H4]; · iexact H4
      isplitl [H5]; · iexact H5
      isplitl [H6]; · iexact H6
      isplitl [H9]; · iexact H9
      isplitl [H12]; · iexact H12
      isplitl [H13]; · iexact H13
      isplitl [H14]; · iexact H14
      isplitl [H15]; · iexact H15
      isplitl [H16]; · iexact H16
      iexact H17
    isplitl [H3]; · iexact H3
    isplitl [H7]; · iexact H7
    isplitl [H8]; · iexact H8
    isplitl [H10]; · iexact H10
    iexact H11

end Run

end Body

end Cert.Kernel.Hand

end
-- ==== Proof.Bits.Run.lean ====
/-
  The kernel's run: what the six scratch buffers hold between two grid points, the pipeline's proof data, the body obligation, and the
  run of the whole program, at any float values.
-/
module

public import proofs.«01_k».proof.Proof.Bits.Body
public import proofs.«01_k».proof.Proof.Gen.Kernel.Launch
public import proofs.«01_k».proof.Proof.Gen.Kernel.Points
public import Idealize.ShloMosaic.Lib.Pipeline.ValueKit

@[expose] public section

set_option maxRecDepth 16384

noncomputable section

namespace Cert.Kernel.Hand

open Cert.Kernel Cert.Kernel.Gen Cert.Chain
open Idealize.ShloMosaic Idealize.ShloMosaic.TcCoe Idealize.ShloMosaic.Tactic Idealize.ShloMosaic.Held
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays and their blocks -/

/-- Core `c`'s buffers when the region is entered: after the reshapes before it. -/
abbrev V (c : Dev nD) (b : Ref sig .tc) : Buf (Elt F) ((c : Thread nD τ).loc b) := StableHlo.after hostOps0 (fun b => m (c, b)) b

/-- Window `w`'s block at point `t`. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The ids, the first row, the scales, the hidden states' codes and scales, and the prologue's gradient, as the body's prologue reads them. -/
def idsA (c : Dev nD) : S256.Idx → BitVec 32 := V m c main_v0
def startA (c : Dev nD) : S1.Idx → BitVec 32 := V m c main_arg7
def dlsA (c : Dev nD) : S256x393.Idx → F .f32 := V m c main_v2
def hcA (c : Dev nD) : S256x2560.Idx → F .fp8e4m3 := V m c main_v3
def hsA (c : Dev nD) : S256x1.Idx → F .f32 := V m c main_v4
def dembA (c : Dev nD) : S256x2560.Idx → F .bf16 := V m c main_v6

/-- The point's coordinate is its number. -/
theorem coord_val : ∀ t : Fin grid0.N, (grid0.coords t 0).val = t.val := by decide +kernel

theorem idx_zero {a b n : ℕ} (h : a = 0) : a * n + b = b := by subst h; omega
theorem index0_0 : ∀ t : Fin grid0.N, win0_0.index t = ![0] := by decide +kernel
/-- Window 0's block is its whole array at every point. -/
theorem iblk_0 (c : Dev nD) (t : Fin (cfg0 (F := F)).N) : iblk m c 0 t = idsA m c := by
  funext x
  unfold idsA
  blk_ext [iblk]
  all_goals first | exact congrFun (index0_0 t) 0 | exact idx_zero (congrFun (index0_0 t) 0) | exact idx_zero (congrFun (index0_0 t) 1)
theorem index0_1 : ∀ t : Fin grid0.N, win0_1.index t = ![0] := by decide +kernel
/-- Window 1's block is its whole array at every point. -/
theorem iblk_1 (c : Dev nD) (t : Fin (cfg0 (F := F)).N) : iblk m c 1 t = startA m c := by
  funext x
  unfold startA
  blk_ext [iblk]
  all_goals first | exact congrFun (index0_1 t) 0 | exact idx_zero (congrFun (index0_1 t) 0) | exact idx_zero (congrFun (index0_1 t) 1)
theorem index0_3 : ∀ t : Fin grid0.N, win0_3.index t = ![0, 0] := by decide +kernel
/-- Window 3's block is its whole array at every point. -/
theorem iblk_3 (c : Dev nD) (t : Fin (cfg0 (F := F)).N) : iblk m c 3 t = dlsA m c := by
  funext x
  unfold dlsA
  blk_ext [iblk]
  all_goals first | exact congrFun (index0_3 t) 0 | exact idx_zero (congrFun (index0_3 t) 0) | exact idx_zero (congrFun (index0_3 t) 1)
theorem index0_4 : ∀ t : Fin grid0.N, win0_4.index t = ![0, 0] := by decide +kernel
/-- Window 4's block is its whole array at every point. -/
theorem iblk_4 (c : Dev nD) (t : Fin (cfg0 (F := F)).N) : iblk m c 4 t = hcA m c := by
  funext x
  unfold hcA
  blk_ext [iblk]
  all_goals first | exact congrFun (index0_4 t) 0 | exact idx_zero (congrFun (index0_4 t) 0) | exact idx_zero (congrFun (index0_4 t) 1)
theorem index0_5 : ∀ t : Fin grid0.N, win0_5.index t = ![0, 0] := by decide +kernel
/-- Window 5's block is its whole array at every point. -/
theorem iblk_5 (c : Dev nD) (t : Fin (cfg0 (F := F)).N) : iblk m c 5 t = hsA m c := by
  funext x
  unfold hsA
  blk_ext [iblk]
  all_goals first | exact congrFun (index0_5 t) 0 | exact idx_zero (congrFun (index0_5 t) 0) | exact idx_zero (congrFun (index0_5 t) 1)
theorem index0_8 : ∀ t : Fin grid0.N, win0_8.index t = ![0, 0] := by decide +kernel
/-- Window 8's block is its whole array at every point. -/
theorem iblk_8 (c : Dev nD) (t : Fin (cfg0 (F := F)).N) : iblk m c 8 t = dembA m c := by
  funext x
  unfold dembA
  blk_ext [iblk]
  all_goals first | exact congrFun (index0_8 t) 0 | exact idx_zero (congrFun (index0_8 t) 0) | exact idx_zero (congrFun (index0_8 t) 1)

/-! ## Between two points -/

/-- The running sum before point `n`. -/
def accAt (c : Dev nD) : ℕ → S256x2560.Idx → F .f32
  | 0 => k0_pay7
  | n + 1 => if h : n < grid0.N then accOut (grid0.coords ⟨n, h⟩) (dlsA m c) (accAt c n) (iblk m c 2 ⟨n, h⟩) (iblk m c 6 ⟨n, h⟩) (iblk m c 7 ⟨n, h⟩) else accAt c n

theorem accAt_succ (c : Dev nD) (t : Fin grid0.N) :
    accAt m c (t.val + 1) = accOut (grid0.coords t) (dlsA m c) (accAt m c t.val) (iblk m c 2 t) (iblk m c 6 t) (iblk m c 7 t) := by
  show (if h : t.val < grid0.N then _ else _) = _
  rw [dif_pos t.isLt]

abbrev sM0 : Memref sig .tc .vmem S256x512 .f32 := Memref.whole cc0_scratch0
abbrev sM1 : Memref sig .tc .vmem S256x2560 .bf16 := Memref.whole cc0_scratch1
abbrev sM2 : Memref sig .tc .vmem S256x2560 .f32 := Memref.whole cc0_scratch2
abbrev sM3 : Memref sig .tc .vmem S256x2560 .f32 := Memref.whole cc0_scratch3
abbrev sM4 : Memref sig .tc .smem S131 .i32 := Memref.whole cc0_scratch4
abbrev sM5 : Memref sig .tc .smem S256 .i32 := Memref.whole cc0_scratch5

/-- The six scratch buffers at any contents. -/
def scrAny (c : Dev nD) : sProp 𝕄 :=
  iprop((∃ X : S256x512.Idx → F .f32, owns (c : Thread nD τ) sM0 fullShare X) ∗ (∃ X : S256x2560.Idx → F .bf16, owns (c : Thread nD τ) sM1 fullShare X)
    ∗ (∃ X : S256x2560.Idx → F .f32, owns (c : Thread nD τ) sM2 fullShare X) ∗ (∃ X : S256x2560.Idx → F .f32, owns (c : Thread nD τ) sM3 fullShare X)
    ∗ (∃ X : S131.Idx → BitVec 32, owns (c : Thread nD τ) sM4 fullShare X) ∗ (∃ X : S256.Idx → BitVec 32, owns (c : Thread nD τ) sM5 fullShare X))

/-- The six scratch buffers after the prologue: the scales, the hidden states, the gradient, the running sum at `A`, the links. -/
def scrAt (c : Dev nD) (A : S256x2560.Idx → F .f32) : sProp 𝕄 :=
  iprop(∃ (X : S256x512.Idx → F .f32) (H : S131.Idx → BitVec 32) (N : S256.Idx → BitVec 32), ⌜ScaleOf X (dlsA m c) ∧ LinksOf (idsA m c) (startA m c) 256 H N⌝
    ∗ owns (c : Thread nD τ) sM0 fullShare X ∗ owns (c : Thread nD τ) sM1 fullShare (k0_pay5 (hcA m c) (hsA m c))
    ∗ owns (c : Thread nD τ) sM2 fullShare (k0_pay6 (dembA m c)) ∗ owns (c : Thread nD τ) sM3 fullShare A
    ∗ owns (c : Thread nD τ) sM4 fullShare H ∗ owns (c : Thread nD τ) sM5 fullShare N)

/-- What holds of the scratch buffers before point `n`. -/
def scr (c : Dev nD) : ℕ → sProp 𝕄
  | 0 => scrAny c
  | n + 1 => scrAt m c (accAt m c (n + 1))

theorem scr_pos (c : Dev nD) {n : ℕ} (h : n ≠ 0) : scr m c n = scrAt m c (accAt m c n) := by
  cases n with
  | zero => exact absurd rfl h
  | succ n => rfl

/-- Any known contents are contents. -/
theorem scr_any (c : Dev nD) (n : ℕ) : scr m c n ⊢ scrAny c := by
  cases n with
  | zero => exact .rfl
  | succ n =>
    show scrAt m c _ ⊢ _
    unfold scrAt scrAny
    iintro ⟨%X, %H, %N, %hX, H0, H1, H2, H3, H4, H5⟩
    isplitl [H0]; · iexists _; iexact H0
    isplitl [H1]; · iexists _; iexact H1
    isplitl [H2]; · iexists _; iexact H2
    isplitl [H3]; · iexists _; iexact H3
    isplitl [H4]; · iexists _; iexact H4
    iexists _; iexact H5

/-- The invariant of the launch, with the scratch buffers spelled out. -/
theorem PhiA_eq (c : Dev nD) : (Pipeline.ΦA spec0 c : sProp 𝕄) = iprop(scrAny c ∗ ∃ r, prngReg c r) := by
  unfold Pipeline.ΦA scrAny
  rw [scopedRest0_eq]
  simp only [owns_whole]
  rfl

/-! ## The pipeline's proof data -/

/-- The tile the point leaves, of the run's arrays. -/
def tileAt (c : Dev nD) (t : Fin grid0.N) : S384x2560.Idx → F .f32 :=
  deOut (grid0.coords t) (idsA m c) (startA m c) (dlsA m c) (hcA m c) (hsA m c) (dembA m c) (iblk m c 2 t)

/-- The hidden states' gradient, of the last running sum. -/
def dhAt (c : Dev nD) : S256x2560.Idx → F .bf16 := k0_pay2 (accAt m c 131)

/-- The proof data: the arrays as the region finds them; each input left in place, the tile, and the last running sum; the scratch. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => tileAt m c t
    | ⟨10, _⟩ => dhAt m c
  Φ t := iprop(scr m c t.val ∗ ∃ r, prngReg c r)
  q _ := fullShare
  owed _ := 0

theorem A_eq (c : Dev nD) (w : Fin (cfg0 (F := F)).W) : (dats m 0 c).A w = V m c (Pipeline.arrRef spec0 w) := by dsimp only [dats]
theorem after0_0 (c : Dev nD) (t : Fin (cfg0 (F := F)).N) : (dats m 0 c).after 0 t = iblk m c 0 t := rfl
theorem after0_1 (c : Dev nD) (t : Fin (cfg0 (F := F)).N) : (dats m 0 c).after 1 t = iblk m c 1 t := rfl
theorem after0_2 (c : Dev nD) (t : Fin (cfg0 (F := F)).N) : (dats m 0 c).after 2 t = iblk m c 2 t := rfl
theorem after0_3 (c : Dev nD) (t : Fin (cfg0 (F := F)).N) : (dats m 0 c).after 3 t = iblk m c 3 t := rfl
theorem after0_4 (c : Dev nD) (t : Fin (cfg0 (F := F)).N) : (dats m 0 c).after 4 t = iblk m c 4 t := rfl
theorem after0_5 (c : Dev nD) (t : Fin (cfg0 (F := F)).N) : (dats m 0 c).after 5 t = iblk m c 5 t := rfl
theorem after0_6 (c : Dev nD) (t : Fin (cfg0 (F := F)).N) : (dats m 0 c).after 6 t = iblk m c 6 t := rfl
theorem after0_7 (c : Dev nD) (t : Fin (cfg0 (F := F)).N) : (dats m 0 c).after 7 t = iblk m c 7 t := rfl
theorem after0_8 (c : Dev nD) (t : Fin (cfg0 (F := F)).N) : (dats m 0 c).after 8 t = iblk m c 8 t := rfl
theorem after0_9 (c : Dev nD) (t : Fin (cfg0 (F := F)).N) : (dats m 0 c).after 9 t = tileAt m c t := rfl
theorem after0_10 (c : Dev nD) (t : Fin (cfg0 (F := F)).N) : (dats m 0 c).after 10 t = dhAt m c := rfl

theorem before0_0 (c : Dev nD) (t : Fin (cfg0 (F := F)).N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin (cfg0 (F := F)).N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin (cfg0 (F := F)).N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin (cfg0 (F := F)).N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin (cfg0 (F := F)).N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin (cfg0 (F := F)).N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin (cfg0 (F := F)).N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin (cfg0 (F := F)).N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem before0_8 (c : Dev nD) (t : Fin (cfg0 (F := F)).N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)

/-! ## The body obligation -/

/-- What the body is called with at point `t`, -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ (dats m 0 c).leavesExact 10 t)

/-- The second output's buffer, stored at the last point and handed back as found at every other. -/
theorem leaves10 (c : Dev nD) (t : Fin (cfg0 (F := F)).N) (d) (Z : S256x2560.Idx → F .bf16)
    (hZ : (grid0.coords t 0).val = 130 → Z = k0_pay2 (accAt m c (t.val + 1))) (hZ' : ¬ (grid0.coords t 0).val = 130 → Z = (dats m 0 c).before 10 t d) :
    owns (c : Thread nD τ) (st0_10 t) fullShare Z ⊢ ((dats m 0 c).leavesExact 10 t : sProp 𝕄) := by
  have hN : t.val < 131 := lt_of_lt_of_eq t.isLt N_0
  unfold Dat.leavesExact
  rw [coord_val t] at hZ hZ'
  by_cases h : t.val = 130
  · have h3 : k0_cond3 (grid0.coords t) = 1#1 := (cond3_iff _).mpr ((coord_val t).trans h)
    have hi : (cfg0 (F := F)).idle 10 ((cfg0 (F := F)).grid.coords t) = false := by
      show (!(k0_cond3 (grid0.coords t) == 1#1)) = false
      rw [h3]; rfl
    rw [hi, hZ h, h]
    exact .rfl
  · have h3 : ¬ k0_cond3 (grid0.coords t) = 1#1 := fun e => h ((coord_val t).symm.trans ((cond3_iff _).mp e))
    have hi : (cfg0 (F := F)).idle 10 ((cfg0 (F := F)).grid.coords t) = true := by
      show (!(k0_cond3 (grid0.coords t) == 1#1)) = true
      simp [h3]
    have hf : ((cfg0 (F := F)).win 10).flush t = false := Bool.eq_false_iff.mpr fun e => h (by have := (flush0_10 t).mp e; omega)
    rw [hi, hZ' h]
    simp only [hf]
    iintro H
    iexists d
    iexact H

/-- The body at any point. -/
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost
  rw [show bodyAt0 (F := F) t = cc0_tied_embedding_backward (grid0.coords t) (win0_0.stage ((cfg0 (F := F)).slots t 0)) (hstage0_0 (((cfg0 (F := F)).slots t 0).cast nbuf0_0)) (win0_1.stage ((cfg0 (F := F)).slots t 1)) (hstage0_1 (((cfg0 (F := F)).slots t 1).cast nbuf0_1)) (win0_2.stage ((cfg0 (F := F)).slots t 2)) (hstage0_2 (((cfg0 (F := F)).slots t 2).cast nbuf0_2)) (win0_3.stage ((cfg0 (F := F)).slots t 3)) (hstage0_3 (((cfg0 (F := F)).slots t 3).cast nbuf0_3)) (win0_4.stage ((cfg0 (F := F)).slots t 4)) (hstage0_4 (((cfg0 (F := F)).slots t 4).cast nbuf0_4)) (win0_5.stage ((cfg0 (F := F)).slots t 5)) (hstage0_5 (((cfg0 (F := F)).slots t 5).cast nbuf0_5)) (win0_6.stage ((cfg0 (F := F)).slots t 6)) (hstage0_6 (((cfg0 (F := F)).slots t 6).cast nbuf0_6)) (win0_7.stage ((cfg0 (F := F)).slots t 7)) (hstage0_7 (((cfg0 (F := F)).slots t 7).cast nbuf0_7)) (win0_8.stage ((cfg0 (F := F)).slots t 8)) (hstage0_8 (((cfg0 (F := F)).slots t 8).cast nbuf0_8)) (win0_9.stage ((cfg0 (F := F)).slots t 9)) (hstage0_9 (((cfg0 (F := F)).slots t 9).cast nbuf0_9)) (win0_10.stage ((cfg0 (F := F)).slots t 10)) (hstage0_10 (((cfg0 (F := F)).slots t 10).cast nbuf0_10)) sM0 (Memref.isWhole_whole _) sM1 (Memref.isWhole_whole _) sM2 (Memref.isWhole_whole _) sM3 (Memref.isWhole_whole _) sM4 (Memref.isWhole_whole _) sM5 (Memref.isWhole_whole _) from rfl]
  simp only [before0_0, before0_1, before0_2, before0_3, before0_4, before0_5, before0_6, before0_7, before0_8,
    after0_0, after0_1, after0_2, after0_3, after0_4, after0_5, after0_6, after0_7, after0_8, after0_9]
  simp only [iblk_0, iblk_1, iblk_3, iblk_4, iblk_5, iblk_8]
  rw [show (dats m 0 c).Φ t.castSucc = iprop(scr m c t.val ∗ ∃ r, prngReg c r) from rfl,
    show (dats m 0 c).Φ t.succ = iprop(scrAt m c (accAt m c (t.val + 1)) ∗ ∃ r, prngReg c r) from rfl,
    show (dats m 0 c).owesAt () t.succ = (dats m 0 c).owesAt () t.castSucc from rfl]
  have hacc := accAt_succ m c t
  have key : ∀ (P : sProp 𝕄), (∀ K : (Σ' (_ : BitVec 32) (_ : IVec S256x128 32) (_ : Vec F S256x128 .f32), IVec S256x128 32) → sProp 𝕄,
      iprop(P ∗ (∀ (X : S256x512.Idx → F .f32) (H : S131.Idx → BitVec 32) (N : S256.Idx → BitVec 32), ⌜ScaleOf X (dlsA m c) ∧ LinksOf (idsA m c) (startA m c) 256 H N⌝ -∗
            (Mid c (st0_0 t) (st0_1 t) (st0_3 t) (st0_4 t) (st0_5 t) (st0_8 t) sM0 sM1 sM2 sM3 sM4 sM5 (idsA m c) (startA m c) (dlsA m c) (hcA m c) (hsA m c) (dembA m c) (accAt m c t.val) X H N)
              -∗ K ⟨BitVec.ofNat 32 (grid0.coords t 0).val, k0_pay8, scaleBlk (grid0.coords t) 0 X, k0_pay9 (grid0.coords t)⟩))
        ⊢ wp frame (wpE (defs₀ (F := F)) 𝒱₀ (c : Thread nD τ) none) Set.univ (k0_part2 (grid0.coords t) (win0_0.stage ((cfg0 (F := F)).slots t 0)) (hstage0_0 (((cfg0 (F := F)).slots t 0).cast nbuf0_0)) (win0_1.stage ((cfg0 (F := F)).slots t 1)) (hstage0_1 (((cfg0 (F := F)).slots t 1).cast nbuf0_1)) (win0_2.stage ((cfg0 (F := F)).slots t 2)) (hstage0_2 (((cfg0 (F := F)).slots t 2).cast nbuf0_2)) (win0_3.stage ((cfg0 (F := F)).slots t 3)) (hstage0_3 (((cfg0 (F := F)).slots t 3).cast nbuf0_3)) (win0_4.stage ((cfg0 (F := F)).slots t 4)) (hstage0_4 (((cfg0 (F := F)).slots t 4).cast nbuf0_4)) (win0_5.stage ((cfg0 (F := F)).slots t 5)) (hstage0_5 (((cfg0 (F := F)).slots t 5).cast nbuf0_5)) (win0_6.stage ((cfg0 (F := F)).slots t 6)) (hstage0_6 (((cfg0 (F := F)).slots t 6).cast nbuf0_6)) (win0_7.stage ((cfg0 (F := F)).slots t 7)) (hstage0_7 (((cfg0 (F := F)).slots t 7).cast nbuf0_7)) (win0_8.stage ((cfg0 (F := F)).slots t 8)) (hstage0_8 (((cfg0 (F := F)).slots t 8).cast nbuf0_8)) (win0_9.stage ((cfg0 (F := F)).slots t 9)) (hstage0_9 (((cfg0 (F := F)).slots t 9).cast nbuf0_9)) (win0_10.stage ((cfg0 (F := F)).slots t 10)) (hstage0_10 (((cfg0 (F := F)).slots t 10).cast nbuf0_10)) sM0 (Memref.isWhole_whole _) sM1 (Memref.isWhole_whole _) sM2 (Memref.isWhole_whole _) sM3 (Memref.isWhole_whole _) sM4 (Memref.isWhole_whole _) sM5 (Memref.isWhole_whole _)) K) →
    iprop((P ∗ ∃ r, prngReg c r) ∗ (dats m 0 c).owesAt () t.castSucc ∗ owns (c : Thread nD τ) (st0_2 t) fullShare (iblk m c 2 t)
        ∗ owns (c : Thread nD τ) (st0_6 t) fullShare (iblk m c 6 t) ∗ owns (c : Thread nD τ) (st0_7 t) fullShare (iblk m c 7 t)
        ∗ (∃ d, owns (c : Thread nD τ) (st0_9 t) fullShare ((dats m 0 c).before 9 t d)) ∗ (∃ d, owns (c : Thread nD τ) (st0_10 t) fullShare ((dats m 0 c).before 10 t d)))
      ⊢ wp frame (wpE (defs₀ (F := F)) 𝒱₀ c none) Set.univ (cc0_tied_embedding_backward (grid0.coords t) (win0_0.stage ((cfg0 (F := F)).slots t 0)) (hstage0_0 (((cfg0 (F := F)).slots t 0).cast nbuf0_0)) (win0_1.stage ((cfg0 (F := F)).slots t 1)) (hstage0_1 (((cfg0 (F := F)).slots t 1).cast nbuf0_1)) (win0_2.stage ((cfg0 (F := F)).slots t 2)) (hstage0_2 (((cfg0 (F := F)).slots t 2).cast nbuf0_2)) (win0_3.stage ((cfg0 (F := F)).slots t 3)) (hstage0_3 (((cfg0 (F := F)).slots t 3).cast nbuf0_3)) (win0_4.stage ((cfg0 (F := F)).slots t 4)) (hstage0_4 (((cfg0 (F := F)).slots t 4).cast nbuf0_4)) (win0_5.stage ((cfg0 (F := F)).slots t 5)) (hstage0_5 (((cfg0 (F := F)).slots t 5).cast nbuf0_5)) (win0_6.stage ((cfg0 (F := F)).slots t 6)) (hstage0_6 (((cfg0 (F := F)).slots t 6).cast nbuf0_6)) (win0_7.stage ((cfg0 (F := F)).slots t 7)) (hstage0_7 (((cfg0 (F := F)).slots t 7).cast nbuf0_7)) (win0_8.stage ((cfg0 (F := F)).slots t 8)) (hstage0_8 (((cfg0 (F := F)).slots t 8).cast nbuf0_8)) (win0_9.stage ((cfg0 (F := F)).slots t 9)) (hstage0_9 (((cfg0 (F := F)).slots t 9).cast nbuf0_9)) (win0_10.stage ((cfg0 (F := F)).slots t 10)) (hstage0_10 (((cfg0 (F := F)).slots t 10).cast nbuf0_10)) sM0 (Memref.isWhole_whole _) sM1 (Memref.isWhole_whole _) sM2 (Memref.isWhole_whole _) sM3 (Memref.isWhole_whole _) sM4 (Memref.isWhole_whole _) sM5 (Memref.isWhole_whole _)) (fun _ => iprop((scrAt m c (accAt m c (t.val + 1)) ∗ ∃ r, prngReg c r) ∗ (dats m 0 c).owesAt () t.castSucc  ∗ owns (c : Thread nD τ) (st0_0 t) fullShare (idsA m c) ∗ owns (c : Thread nD τ) (st0_1 t) fullShare (startA m c) ∗ owns (c : Thread nD τ) (st0_2 t) fullShare (iblk m c 2 t) ∗ owns (c : Thread nD τ) (st0_3 t) fullShare (dlsA m c) ∗ owns (c : Thread nD τ) (st0_4 t) fullShare (hcA m c) ∗ owns (c : Thread nD τ) (st0_5 t) fullShare (hsA m c) ∗ owns (c : Thread nD τ) (st0_6 t) fullShare (iblk m c 6 t) ∗ owns (c : Thread nD τ) (st0_7 t) fullShare (iblk m c 7 t) ∗ owns (c : Thread nD τ) (st0_8 t) fullShare (dembA m c) ∗ owns (c : Thread nD τ) (st0_9 t) fullShare (tileAt m c t) ∗ (dats m 0 c).leavesExact 10 t)) := by
    intro P hP
    iintro ⟨⟨HP, Hg⟩, HO, H3, H7, H8, ⟨%d9, H10⟩, ⟨%d10, H11⟩⟩
    iapply (body_run c (grid0.coords t) (win0_0.stage ((cfg0 (F := F)).slots t 0)) (hstage0_0 (((cfg0 (F := F)).slots t 0).cast nbuf0_0)) (win0_1.stage ((cfg0 (F := F)).slots t 1)) (hstage0_1 (((cfg0 (F := F)).slots t 1).cast nbuf0_1)) (win0_2.stage ((cfg0 (F := F)).slots t 2)) (hstage0_2 (((cfg0 (F := F)).slots t 2).cast nbuf0_2)) (win0_3.stage ((cfg0 (F := F)).slots t 3)) (hstage0_3 (((cfg0 (F := F)).slots t 3).cast nbuf0_3)) (win0_4.stage ((cfg0 (F := F)).slots t 4)) (hstage0_4 (((cfg0 (F := F)).slots t 4).cast nbuf0_4)) (win0_5.stage ((cfg0 (F := F)).slots t 5)) (hstage0_5 (((cfg0 (F := F)).slots t 5).cast nbuf0_5)) (win0_6.stage ((cfg0 (F := F)).slots t 6)) (hstage0_6 (((cfg0 (F := F)).slots t 6).cast nbuf0_6)) (win0_7.stage ((cfg0 (F := F)).slots t 7)) (hstage0_7 (((cfg0 (F := F)).slots t 7).cast nbuf0_7)) (win0_8.stage ((cfg0 (F := F)).slots t 8)) (hstage0_8 (((cfg0 (F := F)).slots t 8).cast nbuf0_8)) (win0_9.stage ((cfg0 (F := F)).slots t 9)) (hstage0_9 (((cfg0 (F := F)).slots t 9).cast nbuf0_9)) (win0_10.stage ((cfg0 (F := F)).slots t 10)) (hstage0_10 (((cfg0 (F := F)).slots t 10).cast nbuf0_10)) sM0 (Memref.isWhole_whole _) sM1 (Memref.isWhole_whole _) sM2 (Memref.isWhole_whole _) sM3 (Memref.isWhole_whole _) sM4 (Memref.isWhole_whole _) sM5 (Memref.isWhole_whole _) (idsA m c) (startA m c) (dlsA m c) (hcA m c) (hsA m c) (dembA m c) (accAt m c t.val)
      (iblk m c 2 t) (iblk m c 6 t) (iblk m c 7 t) P hP ((dats m 0 c).before 10 t d10) _)
    isplitl [HP]; · iexact HP
    isplitl [H3]; · iexact H3
    isplitl [H7]; · iexact H7
    isplitl [H8]; · iexact H8
    isplitl [H10]; · iexists _; iexact H10
    isplitl [H11]; · iexact H11
    iintro %X %H %N %hX ⟨HM, H3, H7, H8, H10, H11⟩
    unfold Mid
    icases HM with ⟨H1, H2, H4, H5, H6, H9, H12, H13, H14, H15, H16, H17⟩
    isplitl [H12 H13 H14 H15 H16 H17 Hg]
    · isplitr [Hg]
      · unfold scrAt
        iexists X, H, N
        isplitr; · ipureintro; exact hX
        isplitl [H12]; · iexact H12
        isplitl [H13]; · iexact H13
        isplitl [H14]; · iexact H14
        isplitl [H15]; · rw [hacc]; iexact H15
        isplitl [H16]; · iexact H16
        iexact H17
      iexact Hg
    isplitl [HO]; · iexact HO
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iapply (leaves10 m c t d10 _ (fun h => (if_pos h).trans (congrArg k0_pay2 hacc.symm)) fun h => if_neg h)
    iexact H11
  by_cases h0 : t.val = 0
  · have h1 : k0_cond1 (grid0.coords t) = 1#1 := (cond1_iff _).mpr ((coord_val t).trans h0)
    rw [show accAt m c t.val = k0_pay7 from by rw [h0]; rfl] at key
    rw [show scr m c t.val = scrAny c from by rw [h0]; rfl]
    unfold scrAny
    iintro ⟨⟨HS, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10⟩
    iapply (key _ (fun K => part2_first c (grid0.coords t) (win0_0.stage ((cfg0 (F := F)).slots t 0)) (hstage0_0 (((cfg0 (F := F)).slots t 0).cast nbuf0_0)) (win0_1.stage ((cfg0 (F := F)).slots t 1)) (hstage0_1 (((cfg0 (F := F)).slots t 1).cast nbuf0_1)) (win0_2.stage ((cfg0 (F := F)).slots t 2)) (hstage0_2 (((cfg0 (F := F)).slots t 2).cast nbuf0_2)) (win0_3.stage ((cfg0 (F := F)).slots t 3)) (hstage0_3 (((cfg0 (F := F)).slots t 3).cast nbuf0_3)) (win0_4.stage ((cfg0 (F := F)).slots t 4)) (hstage0_4 (((cfg0 (F := F)).slots t 4).cast nbuf0_4)) (win0_5.stage ((cfg0 (F := F)).slots t 5)) (hstage0_5 (((cfg0 (F := F)).slots t 5).cast nbuf0_5)) (win0_6.stage ((cfg0 (F := F)).slots t 6)) (hstage0_6 (((cfg0 (F := F)).slots t 6).cast nbuf0_6)) (win0_7.stage ((cfg0 (F := F)).slots t 7)) (hstage0_7 (((cfg0 (F := F)).slots t 7).cast nbuf0_7)) (win0_8.stage ((cfg0 (F := F)).slots t 8)) (hstage0_8 (((cfg0 (F := F)).slots t 8).cast nbuf0_8)) (win0_9.stage ((cfg0 (F := F)).slots t 9)) (hstage0_9 (((cfg0 (F := F)).slots t 9).cast nbuf0_9)) (win0_10.stage ((cfg0 (F := F)).slots t 10)) (hstage0_10 (((cfg0 (F := F)).slots t 10).cast nbuf0_10)) sM0 (Memref.isWhole_whole _) sM1 (Memref.isWhole_whole _) sM2 (Memref.isWhole_whole _) sM3 (Memref.isWhole_whole _) sM4 (Memref.isWhole_whole _) sM5 (Memref.isWhole_whole _) (idsA m c) (startA m c) (dlsA m c) (hcA m c) (hsA m c) (dembA m c) h1 K))
    isplitl [HS H0 H1 H3 H4 H5 H8 Hg]
    · isplitr [Hg]
      · isplitl [H0]; · iexact H0
        isplitl [H1]; · iexact H1
        isplitl [H3]; · iexact H3
        isplitl [H4]; · iexact H4
        isplitl [H5]; · iexact H5
        isplitl [H8]; · iexact H8
        iexact HS
      iexact Hg
    isplitl [HO]; · iexact HO
    isplitl [H2]; · iexact H2
    isplitl [H6]; · iexact H6
    isplitl [H7]; · iexact H7
    isplitl [H9]; · iexact H9
    iexact H10
  · have h1 : ¬ k0_cond1 (grid0.coords t) = 1#1 := fun e => h0 ((coord_val t).symm.trans ((cond1_iff _).mp e))
    rw [scr_pos m c h0]
    iintro ⟨⟨HS, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10⟩
    iapply (key _ (fun K => part2_later c (grid0.coords t) (win0_0.stage ((cfg0 (F := F)).slots t 0)) (hstage0_0 (((cfg0 (F := F)).slots t 0).cast nbuf0_0)) (win0_1.stage ((cfg0 (F := F)).slots t 1)) (hstage0_1 (((cfg0 (F := F)).slots t 1).cast nbuf0_1)) (win0_2.stage ((cfg0 (F := F)).slots t 2)) (hstage0_2 (((cfg0 (F := F)).slots t 2).cast nbuf0_2)) (win0_3.stage ((cfg0 (F := F)).slots t 3)) (hstage0_3 (((cfg0 (F := F)).slots t 3).cast nbuf0_3)) (win0_4.stage ((cfg0 (F := F)).slots t 4)) (hstage0_4 (((cfg0 (F := F)).slots t 4).cast nbuf0_4)) (win0_5.stage ((cfg0 (F := F)).slots t 5)) (hstage0_5 (((cfg0 (F := F)).slots t 5).cast nbuf0_5)) (win0_6.stage ((cfg0 (F := F)).slots t 6)) (hstage0_6 (((cfg0 (F := F)).slots t 6).cast nbuf0_6)) (win0_7.stage ((cfg0 (F := F)).slots t 7)) (hstage0_7 (((cfg0 (F := F)).slots t 7).cast nbuf0_7)) (win0_8.stage ((cfg0 (F := F)).slots t 8)) (hstage0_8 (((cfg0 (F := F)).slots t 8).cast nbuf0_8)) (win0_9.stage ((cfg0 (F := F)).slots t 9)) (hstage0_9 (((cfg0 (F := F)).slots t 9).cast nbuf0_9)) (win0_10.stage ((cfg0 (F := F)).slots t 10)) (hstage0_10 (((cfg0 (F := F)).slots t 10).cast nbuf0_10)) sM0 (Memref.isWhole_whole _) sM1 (Memref.isWhole_whole _) sM2 (Memref.isWhole_whole _) sM3 (Memref.isWhole_whole _) sM4 (Memref.isWhole_whole _) sM5 (Memref.isWhole_whole _) (idsA m c) (startA m c) (dlsA m c) (hcA m c) (hsA m c) (dembA m c) (accAt m c t.val) h1 K))
    isplitl [HS H0 H1 H3 H4 H5 H8 Hg]
    · isplitr [Hg]
      · unfold scrAt Mid
        icases HS with ⟨%X, %H, %N, %hX, G0, G1, G2, G3, G4, G5⟩
        iexists X, H, N
        isplitr; · ipureintro; exact hX
        isplitl [H0]; · iexact H0
        isplitl [H1]; · iexact H1
        isplitl [H3]; · iexact H3
        isplitl [H4]; · iexact H4
        isplitl [H5]; · iexact H5
        isplitl [H8]; · iexact H8
        isplitl [G0]; · iexact G0
        isplitl [G1]; · iexact G1
        isplitl [G2]; · iexact G2
        isplitl [G3]; · iexact G3
        isplitl [G4]; · iexact G4
        iexact G5
      iexact Hg
    isplitl [HO]; · iexact HO
    isplitl [H2]; · iexact H2
    isplitl [H6]; · iexact H6
    isplitl [H7]; · iexact H7
    isplitl [H9]; · iexact H9
    iexact H10

/-- The body table's row at point `t`. -/
theorem defs₀_row (t : Fin (cfg0 (F := F)).N) : defs₀ (F := F) .tc (cfg0 (F := F)).body ((cfg0 (F := F)).bodyArgs t ((cfg0 (F := F)).slots t)) = bodyAt0 t := by
  unfold defs₀; rw [Defs.onTc_tc]

/-- The library's body obligation at every point. -/
theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The launch -/

theorem hostOps0_fresh : (hostOps0 : List (HloOp τ sig (Elt F))).Forall fun op => op.fresh = ∅ := by
  simp only [List.Forall]; repeat' constructor

theorem hmain : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- Every fair execution of the program ends, with every output array as the proof data folds it, every other buffer as the region
    found it, and every semaphore at zero. -/
theorem run_main :
    θ_run defs (onTc (τ := τ) (main (F := F))) (s₀ m ρ)
      (fun r => Pipeline.FramePost cfgs (dats m) 0 (V m) r ∧ r.2.sem = fun _ => 0) :=
  Pipeline.θ_run_frame_track (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m) (hA := A_eq m)
    (hin := fun c => by rw [PhiA_eq]; exact .rfl)
    (hout := fun c => by
      rw [PhiA_eq]
      show iprop(scr m c _ ∗ ∃ r, prngReg c r) ⊢ _
      iintro ⟨HS, Hg⟩
      isplitl [HS]
      · iapply (scr_any m c _)
        iexact HS
      iexact Hg)
    (hQ' := fun _ h => h)

/-! ## The frame -/

/-- The values the region is entered with at a buffer no reshape writes are the launch's. -/
theorem V_of (c : Dev nD) (b : Ref sig .tc) (hb : (hostOps0 : List (HloOp τ sig (Elt F))).Forall fun op => Proc.devRef (τ := τ) .tc b ∉ op.writes) :
    V m c b = m ((c : Thread nD τ).loc b) :=
  StableHlo.after_of_forall_not_mem (b := Proc.devRef .tc b) _ _ (List.forall_iff_forall_mem.mp hb)

theorem V_main_arg0 (c : Dev nD) : V m c main_arg0 = m ((c : Thread nD τ).loc main_arg0) :=
  V_of m c main_arg0 (by
    simp only [List.Forall, StableHlo.reshape_writes, Finset.mem_singleton]
    repeat' apply And.intro
    all_goals exact StableHlo.devRef_ne_of_ne (by decide))
theorem V_main_arg1 (c : Dev nD) : V m c main_arg1 = m ((c : Thread nD τ).loc main_arg1) :=
  V_of m c main_arg1 (by
    simp only [List.Forall, StableHlo.reshape_writes, Finset.mem_singleton]
    repeat' apply And.intro
    all_goals exact StableHlo.devRef_ne_of_ne (by decide))
theorem V_main_arg2 (c : Dev nD) : V m c main_arg2 = m ((c : Thread nD τ).loc main_arg2) :=
  V_of m c main_arg2 (by
    simp only [List.Forall, StableHlo.reshape_writes, Finset.mem_singleton]
    repeat' apply And.intro
    all_goals exact StableHlo.devRef_ne_of_ne (by decide))
theorem V_main_arg3 (c : Dev nD) : V m c main_arg3 = m ((c : Thread nD τ).loc main_arg3) :=
  V_of m c main_arg3 (by
    simp only [List.Forall, StableHlo.reshape_writes, Finset.mem_singleton]
    repeat' apply And.intro
    all_goals exact StableHlo.devRef_ne_of_ne (by decide))
theorem V_main_arg4 (c : Dev nD) : V m c main_arg4 = m ((c : Thread nD τ).loc main_arg4) :=
  V_of m c main_arg4 (by
    simp only [List.Forall, StableHlo.reshape_writes, Finset.mem_singleton]
    repeat' apply And.intro
    all_goals exact StableHlo.devRef_ne_of_ne (by decide))
theorem V_main_arg5 (c : Dev nD) : V m c main_arg5 = m ((c : Thread nD τ).loc main_arg5) :=
  V_of m c main_arg5 (by
    simp only [List.Forall, StableHlo.reshape_writes, Finset.mem_singleton]
    repeat' apply And.intro
    all_goals exact StableHlo.devRef_ne_of_ne (by decide))
theorem V_main_arg6 (c : Dev nD) : V m c main_arg6 = m ((c : Thread nD τ).loc main_arg6) :=
  V_of m c main_arg6 (by
    simp only [List.Forall, StableHlo.reshape_writes, Finset.mem_singleton]
    repeat' apply And.intro
    all_goals exact StableHlo.devRef_ne_of_ne (by decide))
theorem V_main_arg7 (c : Dev nD) : V m c main_arg7 = m ((c : Thread nD τ).loc main_arg7) :=
  V_of m c main_arg7 (by
    simp only [List.Forall, StableHlo.reshape_writes, Finset.mem_singleton]
    repeat' apply And.intro
    all_goals exact StableHlo.devRef_ne_of_ne (by decide))
theorem V_main_arg8 (c : Dev nD) : V m c main_arg8 = m ((c : Thread nD τ).loc main_arg8) :=
  V_of m c main_arg8 (by
    simp only [List.Forall, StableHlo.reshape_writes, Finset.mem_singleton]
    repeat' apply And.intro
    all_goals exact StableHlo.devRef_ne_of_ne (by decide))

/-- Every fair execution of the program ends, with the arguments as they were and every semaphore at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨((h.1 c).2 main_arg0 (Pipeline.mem_restRefs_of main_arg0 (by decide) (by exact (by decide : ∀ w, Pipeline.arrRef spec0 w ≠ main_arg0)))).trans (V_main_arg0 m c),
      ((h.1 c).2 main_arg1 (Pipeline.mem_restRefs_of main_arg1 (by decide) (by exact (by decide : ∀ w, Pipeline.arrRef spec0 w ≠ main_arg1)))).trans (V_main_arg1 m c),
      ((h.1 c).2 main_arg2 (Pipeline.mem_restRefs_of main_arg2 (by decide) (by exact (by decide : ∀ w, Pipeline.arrRef spec0 w ≠ main_arg2)))).trans (V_main_arg2 m c),
      ((h.1 c).2 main_arg3 (Pipeline.mem_restRefs_of main_arg3 (by decide) (by exact (by decide : ∀ w, Pipeline.arrRef spec0 w ≠ main_arg3)))).trans (V_main_arg3 m c),
      ((h.1 c).1 6).trans (((dats m 0 c).arrAt_in 6 rfl _).trans ((A_eq m c 6).trans (V_main_arg4 m c))),
      ((h.1 c).2 main_arg5 (Pipeline.mem_restRefs_of main_arg5 (by decide) (by exact (by decide : ∀ w, Pipeline.arrRef spec0 w ≠ main_arg5)))).trans (V_main_arg5 m c),
      ((h.1 c).2 main_arg6 (Pipeline.mem_restRefs_of main_arg6 (by decide) (by exact (by decide : ∀ w, Pipeline.arrRef spec0 w ≠ main_arg6)))).trans (V_main_arg6 m c),
      ((h.1 c).1 1).trans (((dats m 0 c).arrAt_in 1 rfl _).trans ((A_eq m c 1).trans (V_main_arg7 m c))),
      ((h.1 c).2 main_arg8 (Pipeline.mem_restRefs_of main_arg8 (by decide) (by exact (by decide : ∀ w, Pipeline.arrRef spec0 w ≠ main_arg8)))).trans (V_main_arg8 m c)⟩, h.2⟩) (run_main m ρ)

end Cert.Kernel.Hand

end
-- ==== Proof.Ideal.Words.lean ====
/-
  The kernel's offsets, checks and conditions at the words its tables hold: closed forms for the accesses whose place is
  computed from an id, the shard's first row, or a link.
-/
module

public import proofs.«01_k».proof.Proof.Gen.KernelIdeal
public import proofs.«01_k».proof.Proof.Gen.KernelIdeal.Skeleton
public import proofs.«01_k».proof.Proof.Chain

@[expose] public section

set_option maxRecDepth 16384

namespace Cert.KernelIdeal.Hand

open Cert.KernelIdeal Cert.KernelIdeal.Gen Cert.Chain
open Idealize.ShloMosaic Idealize.ShloMosaic.WordCmp Idealize.ShloMosaic.Affine

/-- The linking step's test: the id lies in this shard. -/
theorem cond2_iff (s w : BitVec 32) : k0_cond2 s w = 1#1 ↔ (w - s).toNat < 50304 := inRange_iff (w - s)

/-- Where the linking step finds the head of the id's tile. -/
theorem off3_eq (s w : BitVec 32) (h : (w - s).toNat < 50304) : k0_off3 s w = ![tileOf s w] := by
  have := floorDiv_toNat (w - s) h
  exact congrArg (fun n => (![n] : Fin 1 → ℕ)) this

/-- The linking step's check holds of every id and first row. -/
theorem chk1 (i : grid0.Coords) (s w : BitVec 32) : k0_chk1 i s w := by
  intro _ h2 a
  have h := (cond2_iff s w).mp h2
  rw [off3_eq s w h]
  have ha : a = 0 := Subsingleton.elim _ _
  subst ha
  show tileOf s w + 1 ≤ 131
  unfold tileOf; omega

theorem ofNat_toNat (t : Fin 256) : (BitVec.ofNat 32 t.val).toNat = t.val := by
  rw [BitVec.toNat_ofNat, Nat.mod_eq_of_lt (by have := t.isLt; omega)]

theorem off7_eq (t : Fin 256) : k0_off7 (BitVec.ofNat 32 t.val) = ![t.val] :=
  congrArg (fun n => (![n] : Fin 1 → ℕ)) (ofNat_toNat t)
theorem off10_eq (t : Fin 256) : k0_off10 (BitVec.ofNat 32 t.val) = ![t.val] :=
  congrArg (fun n => (![n] : Fin 1 → ℕ)) (ofNat_toNat t)
theorem off9_eq (t : Fin 256) : k0_off9 (BitVec.ofNat 32 t.val) = ![t.val, 0] :=
  congrArg (fun n => (![n, 0] : Fin 2 → ℕ)) (ofNat_toNat t)

/-- The walk's check holds of every token's number. -/
theorem chk2 (t : Fin 256) : k0_chk2 (BitVec.ofNat 32 t.val) := by
  unfold k0_chk2
  rw [off7_eq, off9_eq, off10_eq]
  have := t.isLt
  refine ⟨fun a => ?_, fun a => ?_, fun a => ?_⟩
  · have ha : a = 0 := Subsingleton.elim _ _
    subst ha
    show t.val + 1 ≤ 256; omega
  · fin_cases a
    · show t.val + 1 ≤ 256; omega
    · show 0 + 2560 ≤ 2560; omega
  · have ha : a = 0 := Subsingleton.elim _ _
    subst ha
    show t.val + 1 ≤ 256; omega

/-- Where the walk finds the id's row in the tile. -/
theorem off8_eq (i : grid0.Coords) (s w : BitVec 32) (h : tileOf s w = (i 0).val) : k0_off8 i w s = ![(w - s).toNat % 384, 0] :=
  congrArg (fun n => (![n, 0] : Fin 2 → ℕ)) (row_toNat (w - s) (i 0).val (i 0).isLt h)

/-- The walk's check holds of every id of the tile. -/
theorem chk3 (i : grid0.Coords) (s w : BitVec 32) (h : tileOf s w = (i 0).val) : k0_chk3 i w s := by
  unfold k0_chk3
  rw [off8_eq i s w h]
  intro a
  fin_cases a
  · show (w - s).toNat % 384 + 1 ≤ 384; omega
  · show 0 + 2560 ≤ 2560; omega

/-- The walk goes on at a token's number and stops at minus one. -/
theorem sge_token (t : Fin 256) : Scalar.cmpi .sge (BitVec.ofNat 32 t.val) 0#32 = 1#1 := by
  show IntOp.cmpi .sge _ _ = _
  rw [cmpi_sge_zero, ofNat_toNat]
  have : t.val < 2 ^ (32 - 1) := by have := t.isLt; omega
  simp only [this, decide_true]; rfl
theorem sge_end : ¬ Scalar.cmpi .sge (4294967295#32) 0#32 = 1#1 := by decide

/-- The first point's condition, and the last's. -/
theorem cond1_iff : ∀ i : grid0.Coords, k0_cond1 i = 1#1 ↔ (i 0).val = 0 := by decide +kernel
theorem cond3_iff : ∀ i : grid0.Coords, k0_cond3 i = 1#1 ↔ (i 0).val = 130 := by decide +kernel

/-- Where the three 128-column blocks of scales the point reads begin. -/
theorem off5_eq : ∀ i : grid0.Coords, ∀ r : Fin 3, k0_off5 i (BitVec.ofNat 32 r.val) = ![0, (3 * (i 0).val + r.val) / 128 * 128] := by decide +kernel

theorem trip_word : ∀ k : Fin k0_t2_loop.trips, Scalar.subi 255#32 (Scf.iv 0#32 1#32 k) = BitVec.ofNat 32 (255 - k.val) := by decide +kernel
theorem trips1 : k0_t1_loop.trips = 131 := by decide
theorem trips2 : k0_t2_loop.trips = 256 := by decide

end Cert.KernelIdeal.Hand
-- ==== Proof.Ideal.Walk.lean ====
/-
  The walk along one tile's list: the label of the kernel's while loop, entered at a head word that spells a list of tokens of this
  tile, adds each token's row of the embedding gradient to the token's row of the tile and returns.
-/
module

public import proofs.«01_k».proof.Proof.Ideal.Words
public import proofs.«01_k».proof.Proof.Held
public import Idealize.ShloMosaic.Lib.Pipeline.Value

@[expose] public section

set_option maxRecDepth 16384

noncomputable section

namespace Cert.KernelIdeal.Hand

open Cert.KernelIdeal Cert.KernelIdeal.Gen Cert.Chain
open Idealize.ShloMosaic Idealize.ShloMosaic.TcCoe Idealize.ShloMosaic.Tactic Idealize.ShloMosaic.Held
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- While labels are entered at a number that goes down with each trip. -/
abbrev 𝒱₀ : Variants := Variants.nat

/-- The index `(p, q)` of a matrix. -/
def ix2 {n k : ℕ} (p : Fin n) (q : Fin k) : (⟨2, ![n, k]⟩ : Shape).Idx := fun a => Fin.cases p (fun b => Fin.cases q (fun b => b.elim0) b) a

theorem ix2_eta {n k : ℕ} (y : (⟨2, ![n, k]⟩ : Shape).Idx) : ix2 (y 0) (y 1) = y := by
  funext a; fin_cases a <;> rfl

/-- Row `r` of the tile with row `t` of the embedding gradient added. -/
def addRow (D : S256x2560.Idx → F .f32) (X : S384x2560.Idx → F .f32) (r : ℕ) (t : Fin 256) : S384x2560.Idx → F .f32 :=
  fun y => if (y 0).val = r then FloatOps.addf (X y) (D (ix2 t (y 1))) else X y

/-- The tile with the rows of the tokens of a list added, first to last. -/
def addRows (ids : Fin 256 → BitVec 32) (s : BitVec 32) (D : S256x2560.Idx → F .f32) (X : S384x2560.Idx → F .f32) (L : List (Fin 256)) :
    S384x2560.Idx → F .f32 :=
  L.foldl (fun X t => addRow D X ((ids t - s).toNat % 384) t) X

/-- One trip's store is the row added. -/
theorem put_row (D : S256x2560.Idx → F .f32) (X : S384x2560.Idx → F .f32) (r : ℕ) (t : Fin 256) {off off' : Fin 2 → ℕ}
    {inb : ∀ a, off a + S1x2560.size a ≤ S384x2560.size a} {inb' : ∀ a, off' a + S1x2560.size a ≤ S256x2560.size a}
    (h : off = ![r, 0]) (h' : off' = ![t.val, 0]) :
    VecWindow.put (s := S384x2560) X off S1x2560.size
      (k0_pay3 (fun x => X ((Rect.unit (s := S384x2560) off S1x2560.size inb).toLoadRect.idx x))
        (fun x => D ((Rect.unit (s := S256x2560) off' S1x2560.size inb').toLoadRect.idx x))) = addRow D X r t := by
  subst h h'
  funext y
  unfold VecWindow.put addRow
  by_cases hy : (y 0).val = r
  · rw [if_pos hy, dif_pos]
    · unfold k0_pay3
      simp only [shapeCast_self]
      have e1 : ∀ z : S1x2560.Idx, (z 1).val = (y 1).val → (Rect.unit (s := S384x2560) ![r, 0] S1x2560.size inb).toLoadRect.idx z = y := fun z hz => by
        have hz0 : (z 0).val < 1 := (z 0).isLt
        funext a; apply Fin.ext
        fin_cases a
        · show r + 1 * (z 0).val = (y 0).val; omega
        · show 0 + 1 * (z 1).val = (y 1).val; omega
      have e2 : ∀ z : S1x2560.Idx, (z 1).val = (y 1).val → (Rect.unit (s := S256x2560) ![t.val, 0] S1x2560.size inb').toLoadRect.idx z = ix2 t (y 1) := fun z hz => by
        have hz0 : (z 0).val < 1 := (z 0).isLt
        funext a; apply Fin.ext
        fin_cases a
        · show t.val + 1 * (z 0).val = t.val; omega
        · show 0 + 1 * (z 1).val = (y 1).val; omega
      show FloatOps.addf (X _) (D _) = _
      rw [e1, e2] <;> rfl
    · intro a
      fin_cases a
      · show r ≤ (y 0).val ∧ (y 0).val < r + 1; omega
      · show 0 ≤ (y 1).val ∧ (y 1).val < 0 + 2560
        have : (y 1).val < 2560 := (y 1).isLt
        omega
  · rw [if_neg hy, dif_neg]
    intro hall
    have : r ≤ (y 0).val ∧ (y 0).val < r + 1 := hall 0
    omega

section Label

variable (c : Dev nD) (i : grid0.Coords)
  (arg1 : Memref sig .tc .smem S256 .i32) (harg1 : arg1.IsWhole) (arg2 : Memref sig .tc .smem S1 .i32) (harg2 : arg2.IsWhole)
  (arg10 : Memref sig .tc .vmem S384x2560 .f32) (harg10 : arg10.IsWhole) (arg14 : Memref sig .tc .vmem S256x2560 .f32) (harg14 : arg14.IsWhole)
  (arg17 : Memref sig .tc .smem S256 .i32) (harg17 : arg17.IsWhole)
  (I : S256.Idx → BitVec 32) (S : S1.Idx → BitVec 32) (D : S256x2560.Idx → F .f32) (N : S256.Idx → BitVec 32)

/-- The five buffers the walk reads and writes: the tile at `X`, the others at their contents. -/
def held (X : S384x2560.Idx → F .f32) : sProp 𝕄 :=
  iprop(owns (c : Thread nD τ) arg1 fullShare I ∗ owns (c : Thread nD τ) arg2 fullShare S ∗ owns (c : Thread nD τ) arg10 fullShare X
    ∗ owns (c : Thread nD τ) arg14 fullShare D ∗ owns (c : Thread nD τ) arg17 fullShare N)

/-- The walk's specification on a list: the tile gets the list's rows. -/
def spec (X : S384x2560.Idx → F .f32) (L : List (Fin 256)) : sWPT 𝕄 (BitVec 32) := do
  sWPT.consume (held c arg1 arg2 arg10 arg14 arg17 I S D N X)
  let r ← sWPT.arbitrary
  sWPT.produce (held c arg1 arg2 arg10 arg14 arg17 I S D N (addRows (fun t => I (ix1 t)) (S (ix1 0)) D X L))
  pure r

theorem spec_apply (X : S384x2560.Idx → F .f32) (L : List (Fin 256)) (K : BitVec 32 → sProp 𝕄) :
    spec c arg1 arg2 arg10 arg14 arg17 I S D N X L K
      = iprop(held c arg1 arg2 arg10 arg14 arg17 I S D N X
          ∗ ∀ r, (held c arg1 arg2 arg10 arg14 arg17 I S D N (addRows (fun t => I (ix1 t)) (S (ix1 0)) D X L) -∗ K r)) := rfl

/-- The label's body meets the specification at every word that spells a list of tokens of this tile. -/
theorem spec_le (E : Set ℕ) : ∀ (L : List (Fin 256)) (X : S384x2560.Idx → F .f32) (w : BitVec 32),
    (∀ t ∈ L, tileOf (S (ix1 0)) (I (ix1 t)) = (i 0).val) → Spells (fun t => N (ix1 t)) w L → ∀ K,
    spec c arg1 arg2 arg10 arg14 arg17 I S D N X L K
      ⊢ wp frame (wpE (defs₀ (F := F)) 𝒱₀ (c : Thread nD τ) (some L.length)) E
          (defs₀ (F := F) .tc 1 ⟨i, arg1, harg1, arg2, harg2, arg10, harg10, arg14, harg14, arg17, harg17, w⟩) K := by
  intro L
  induction L with
  | nil =>
    intro X w _ hw K
    rw [spec_apply]
    show _ ⊢ wp frame (wpE (defs₀ (F := F)) 𝒱₀ (c : Thread nD τ) (some 0)) E
      (cc0_while1 i arg1 harg1 arg2 harg2 arg10 harg10 arg14 harg14 arg17 harg17 w) K
    simp only [cc0_while1_eq_skeleton]; unfold cc0_while1_skel
    have hw' : w = 4294967295#32 := hw
    subst hw'
    simp only [sge_end, ↓reduceIte, Prog.pure_eq_ret]
    iintro ⟨H, Hk⟩
    rw [wp_ret]; imodintro
    iapply Hk
    iexact H
  | cons t L ih =>
    intro X w ht hw K
    rw [spec_apply]
    show _ ⊢ wp frame (wpE (defs₀ (F := F)) 𝒱₀ (c : Thread nD τ) (some (L.length + 1))) E
      (cc0_while1 i arg1 harg1 arg2 harg2 arg10 harg10 arg14 harg14 arg17 harg17 w) K
    simp only [cc0_while1_eq_skeleton]; unfold cc0_while1_skel
    obtain ⟨hw', hL⟩ := hw
    subst hw'
    have hti := ht t (List.mem_cons_self ..)
    simp only [sge_token t, ↓reduceIte, Prog.lift, Prog.bind_op, Prog.bind_ret, Prog.pure_eq_ret, smemLoad, smemLoadElt]
    unfold held
    iintro ⟨⟨H1, H2, H10, H14, H17⟩, Hk⟩
    iapply (wp_assume 𝒱₀ (c : Thread nD τ) (some (L.length + 1)) E (chk2 t))
    iapply (Held.wp_word 𝒱₀ (c : Thread nD τ) (some (L.length + 1)) E t (off7_eq t)) $$ H1; iintro H1
    iapply (Held.wp_word 𝒱₀ (c : Thread nD τ) (some (L.length + 1)) E (0 : Fin 1) rfl) $$ H2; iintro H2
    iapply (wp_assume 𝒱₀ (c : Thread nD τ) (some (L.length + 1)) E (chk3 i _ _ hti))
    iapply (Held.wp_load 𝒱₀ (c : Thread nD τ) (some (L.length + 1)) E) $$ H10; iintro H10
    iapply (Held.wp_load 𝒱₀ (c : Thread nD τ) (some (L.length + 1)) E) $$ H14; iintro H14
    iapply (Held.wp_load 𝒱₀ (c : Thread nD τ) (some (L.length + 1)) E) $$ H10; iintro H10
    iapply (Held.wp_store 𝒱₀ (c : Thread nD τ) (some (L.length + 1)) E) $$ H10; iintro H10
    iapply (Held.wp_word 𝒱₀ (c : Thread nD τ) (some (L.length + 1)) E t (off10_eq t)) $$ H17; iintro H17
    iapply (wp_call_spec 𝒱₀ (c : Thread nD τ) (some (L.length + 1)) E
      (spec c arg1 arg2 arg10 arg14 arg17 I S D N (addRow D X ((I (ix1 t) - S (ix1 0)).toNat % 384) t) L) L.length
      (fun u hu => by cases hu; exact Nat.lt_succ_self _)
      (ih (addRow D X ((I (ix1 t) - S (ix1 0)).toNat % 384) t) (N (ix1 t)) (fun u hu => ht u (List.mem_cons_of_mem _ hu)) hL))
    rw [spec_apply]; unfold held
    isplitl [H1 H2 H10 H14 H17]
    · isplitl [H1]; · iexact H1
      isplitl [H2]; · iexact H2
      isplitl [H10]
      · rw [← put_row D X _ t (off8_eq i _ _ hti) (off9_eq t) (inb := k0_off8_inb i _ _ (chk3 i _ _ hti)) (inb' := k0_off9_inb _ (chk2 t))]
        iexact H10
      isplitl [H14]; · iexact H14
      iexact H17
    iintro %r ⟨H1, H2, H10, H14, H17⟩
    rw [wp_ret]; imodintro
    iapply Hk
    isplitl [H1]; · iexact H1
    isplitl [H2]; · iexact H2
    isplitl [H10]; · iexact H10
    isplitl [H14]; · iexact H14
    iexact H17

end Label

end Cert.KernelIdeal.Hand

end
-- ==== Proof.Ideal.Tile.lean ====
/-
  What one grid point computes from its blocks: the dequantized 384 columns of the logit gradient, the tile of the embedding gradient
  before the tokens' rows are added, and the addend of the running sum — closed forms of the printed payloads.
-/
module

public import proofs.«01_k».proof.Proof.Ideal.Walk

@[expose] public section

set_option maxRecDepth 16384

noncomputable section

namespace Cert.KernelIdeal.Hand

open Cert.KernelIdeal Cert.KernelIdeal.Gen Cert.Chain
open Idealize.ShloMosaic Idealize.ShloMosaic.Held

variable {F : FTy → Type} [FloatOps F]

/-- The scale scratch holds the scales in its first 393 columns. -/
def ScaleOf (X : S256x512.Idx → F .f32) (dls : S256x393.Idx → F .f32) : Prop :=
  ∀ (p : Fin 256) (q : Fin 393), X (ix2 p (⟨q.val, by omega⟩ : Fin 512)) = dls (ix2 p q)

/-- Storing the scales over the first 393 columns leaves them there, whatever the scratch held. -/
theorem scaleOf_put (f : S256x512.Idx → F .f32) (dls : S256x393.Idx → F .f32) :
    ScaleOf (VecWindow.put (s := S256x512) f ![0, 0] S256x393.size (k0_pay4 dls)) dls := by
  intro p q
  unfold VecWindow.put k0_pay4
  rw [dif_pos]
  · simp only [shapeCast_self]
    refine congrArg dls (funext fun a => Fin.ext ?_)
    fin_cases a <;> rfl
  · intro a
    fin_cases a
    · exact ⟨Nat.zero_le _, by show p.val < 0 + 256; omega⟩
    · exact ⟨Nat.zero_le _, by show q.val < 0 + 393; omega⟩

/-- The number of a 128-column block of the logit gradient: the point's `r`-th. -/
def blkNo (i : grid0.Coords) (r : ℕ) : BitVec 32 := Scalar.addi (Scalar.muli (BitVec.ofNat 32 (i 0).val) 3#32) (BitVec.ofNat 32 r)

/-- The kernel's remainder by 128. -/
def rem128 (n : BitVec 32) : BitVec 32 :=
  let v28 : BitVec 32 := Scalar.select (Scalar.cmpi .eq 128#32 0#32) 1#32 128#32
  let v29 : BitVec 32 := Scalar.remsi n v28
  Scalar.select (Scalar.andi (Scalar.xori (Scalar.cmpi .slt v29 0#32) (Scalar.cmpi .slt v28 0#32)) (Scalar.cmpi .ne v29 0#32)) (Scalar.addi v29 v28) v29

/-- The kernel's wrapped lane number. -/
def laneWord (u : BitVec 32) : BitVec 32 :=
  Scalar.select (Scalar.cmpi .slt (Scalar.addi 0#32 u) 0#32) (Scalar.addi (Scalar.addi 0#32 u) 128#32) (Scalar.addi 0#32 u)

theorem lane_toNat : ∀ i : grid0.Coords, ∀ r : Fin 3, (laneWord (rem128 (blkNo i r.val))).toNat = (3 * (i 0).val + r.val) % 128 := by
  decide +kernel

/-- The lane vector a block's scales are gathered by. -/
def laneVec (u : BitVec 32) : IVec S256x128 32 :=
  have v38 : IVec S256x128 32 := addi k0_pay8 (broadcast S256x128 u)
  have v43 : IVec S256x128 32 := select (cmpi .slt v38 (broadcast S256x128 0#32)) (addi v38 (broadcast S256x128 128#32)) v38
  shapeCast S256x128 (shapeCast S256x128x1 v43 shapeCasts_S256x128_S256x128x1) shapeCasts_S256x128x1_S256x128

theorem laneVec_apply (u : BitVec 32) (x : S256x128.Idx) : laneVec u x = laneWord u := rfl

/-- One dequantized block of 128 columns: codes times the gathered scales. -/
def chunk (u : BitVec 32) (tile : S256x128.Idx → F .f32) (C : S256x128.Idx → F .fp8e5m2) : FVec F S256x128 .bf16 :=
  mulf (extf .bf16 (shapeCast S256x128 C shapeCasts_S256x128_S256x128) bitsLt_fp8e5m2_bf16) (truncf .bf16 (dynamicGather 1 tile (laneVec u)) bitsLt_bf16_f32)

/-- The point's `r`-th block of scales, and of codes, as loaded. -/
def scaleBlk (i : grid0.Coords) (r : Fin 3) (X : S256x512.Idx → F .f32) : S256x128.Idx → F .f32 :=
  fun x => X ((Rect.unit (s := S256x512) (k0_off5 i (BitVec.ofNat 32 r.val)) S256x128.size (k0_off5_inb i r)).toLoadRect.idx x)
def codeBlk (o : ℕ) (h : o + 128 ≤ 384) (C : S256x384.Idx → F .fp8e5m2) : S256x128.Idx → F .fp8e5m2 :=
  fun x => C (ix2 (x 0) (⟨o + (x 1).val, by have : (x 1).val < 128 := (x 1).isLt; omega⟩ : Fin 384))

/-- 128 columns of the codes, as loaded. -/
def codeLd (o : ℕ) (inb : ∀ a, (![0, o] : Fin 2 → ℕ) a + S256x128.size a ≤ S256x384.size a) (C : S256x384.Idx → F .fp8e5m2) : S256x128.Idx → F .fp8e5m2 :=
  fun x => C ((Rect.unit (s := S256x384) ![0, o] S256x128.size inb).toLoadRect.idx x)

/-- A load of 128 columns of the codes, column by column. -/
theorem codeBlk_eq (o : ℕ) (h : o + 128 ≤ 384) (C : S256x384.Idx → F .fp8e5m2) (inb : ∀ a, (![0, o] : Fin 2 → ℕ) a + S256x128.size a ≤ S256x384.size a) :
    codeLd o inb C = codeBlk o h C := by
  funext x
  refine congrArg C (funext fun a => Fin.ext ?_)
  fin_cases a
  · show 0 + 1 * (x 0).val = (x 0).val; omega
  · show o + 1 * (x 1).val = o + (x 1).val; omega

/-- The dequantized 384 columns of point `i`: codes times their blocks' scales, in bf16. -/
def dlB (i : grid0.Coords) (C : S256x384.Idx → F .fp8e5m2) (dls : S256x393.Idx → F .f32) : FVec F S256x384 .bf16 :=
  mulf (extf .bf16 C bitsLt_fp8e5m2_bf16)
    (truncf .bf16 (fun y : S256x384.Idx => dls (ix2 (y 0) (⟨3 * (i 0).val + (y 1).val / 128, by
      have h0 : (i 0).val < 131 := (i 0).isLt
      have h1 : (y 1).val < 384 := (y 1).isLt
      omega⟩ : Fin 393))) bitsLt_bf16_f32)

/-- A gathered block of scales, at an element. -/
theorem gather_scale (i : grid0.Coords) (r : Fin 3) {X : S256x512.Idx → F .f32} {dls : S256x393.Idx → F .f32} (h : ScaleOf X dls) (x : S256x128.Idx) :
    dynamicGather 1 (scaleBlk i r X) (laneVec (rem128 (blkNo i r.val))) x
      = dls (ix2 (x 0) (⟨3 * (i 0).val + r.val, by have h0 : (i 0).val < 131 := (i 0).isLt; omega⟩ : Fin 393)) := by
  have h0 : (i 0).val < 131 := (i 0).isLt
  have hl := lane_toNat i r
  refine Eq.trans ?_ (h (x 0) ⟨3 * (i 0).val + r.val, by omega⟩)
  unfold dynamicGather scaleBlk
  refine congrArg X (funext fun a => Fin.ext ?_)
  have ho := off5_eq i r
  fin_cases a
  · show k0_off5 i (BitVec.ofNat 32 r.val) 0 + 1 * (x 0).val = (x 0).val
    rw [ho]
    show 0 + 1 * (x 0).val = (x 0).val
    omega
  · show k0_off5 i (BitVec.ofNat 32 r.val) 1 + 1 * ((laneWord (rem128 (blkNo i r.val))).toNat % 128) = 3 * (i 0).val + r.val
    rw [ho, hl]
    show (3 * (i 0).val + r.val) / 128 * 128 + 1 * ((3 * (i 0).val + r.val) % 128 % 128) = 3 * (i 0).val + r.val
    omega

/-- A dequantized block at an element, is the element of `dlB`. -/
theorem chunk_apply (i : grid0.Coords) (r : Fin 3) (o : ℕ) (ho : o = 128 * r.val) (h : o + 128 ≤ 384) {X : S256x512.Idx → F .f32} {dls : S256x393.Idx → F .f32}
    (hs : ScaleOf X dls) (C : S256x384.Idx → F .fp8e5m2) (x : S256x128.Idx) (y : S256x384.Idx) (h0 : (y 0).val = (x 0).val) (h1 : (y 1).val = o + (x 1).val) :
    chunk (rem128 (blkNo i r.val)) (scaleBlk i r X) (codeBlk o h C) x = dlB i C dls y := by
  have hx1 : (x 1).val < 128 := (x 1).isLt
  unfold chunk dlB
  rw [shapeCast_self]
  show FloatOps.mulf (FloatOps.extf .bf16 bitsLt_fp8e5m2_bf16 (codeBlk o h C x))
    (FloatOps.truncf .bf16 bitsLt_bf16_f32 (dynamicGather 1 (scaleBlk i r X) (laneVec (rem128 (blkNo i r.val))) x)) = _
  rw [gather_scale i r hs]
  have e1 : codeBlk o h C x = C y := congrArg C (funext fun a => Fin.ext (by
    fin_cases a
    · exact h0.symm
    · exact h1.symm))
  rw [e1]
  refine congrArg (fun z => FloatOps.mulf _ (FloatOps.truncf .bf16 bitsLt_bf16_f32 (dls z))) (funext fun a => Fin.ext ?_)
  fin_cases a
  · exact h0.symm
  · show 3 * (i 0).val + r.val = 3 * (i 0).val + (y 1).val / 128
    omega

/-- The three blocks side by side are the dequantized 384 columns. -/
theorem concat_eq (i : grid0.Coords) {X : S256x512.Idx → F .f32} {dls : S256x393.Idx → F .f32} (hs : ScaleOf X dls) (C : S256x384.Idx → F .fp8e5m2) :
    concatenate S256x384 1 [⟨S256x128, chunk (rem128 (blkNo i 0)) (scaleBlk i 0 X) (codeBlk 0 (by decide) C)⟩,
        ⟨S256x128, chunk (rem128 (blkNo i 1)) (scaleBlk i 1 X) (codeBlk 128 (by decide) C)⟩,
        ⟨S256x128, chunk (rem128 (blkNo i 2)) (scaleBlk i 2 X) (codeBlk 256 (by decide) C)⟩] concatenates_S256x128_S256x128_S256x128_S256x384_d1
      = dlB i C dls := by
  funext y
  have hy : (y 1).val < 384 := (y 1).isLt
  have piece : ∀ (k : ℕ) (hk : k < 3), 128 * k ≤ (y 1).val → (y 1).val < 128 * k + 128 → ∃ x : S256x128.Idx, (y 0).val = (x 0).val ∧ (y 1).val = 128 * k + (x 1).val :=
    fun k hk h1 h2 => ⟨ix2 (y 0) (⟨(y 1).val - 128 * k, by omega⟩ : Fin 128), rfl, by show (y 1).val = 128 * k + ((y 1).val - 128 * k); omega⟩
  have hb : ∀ (x : S256x128.Idx), (y 0).val = (x 0).val → ∀ b : Fin 2, b ≠ 1 → (x b).val = (y b).val := fun x hx b hne => by
    fin_cases b
    · exact hx.symm
    · exact absurd rfl hne
  by_cases c0 : (y 1).val < 128
  · obtain ⟨x, hx0, hx1⟩ := piece 0 (by decide) (by omega) (by omega)
    rw [concatenate_apply_piece 1 _ _ y 0 (by show 0 < 3; omega) S256x128 _ rfl rfl 0 rfl x (hb x hx0) (by show 0 + (x 1).val = (y 1).val; omega)]
    exact chunk_apply i 0 0 rfl (by decide) hs C x y hx0 (by omega)
  by_cases c1 : (y 1).val < 256
  · obtain ⟨x, hx0, hx1⟩ := piece 1 (by decide) (by omega) (by omega)
    rw [concatenate_apply_piece 1 _ _ y 1 (by show 1 < 3; omega) S256x128 _ rfl rfl 128 rfl x (hb x hx0) (by show 128 + (x 1).val = (y 1).val; omega)]
    exact chunk_apply i 1 128 rfl (by decide) hs C x y hx0 (by omega)
  · obtain ⟨x, hx0, hx1⟩ := piece 2 (by decide) (by omega) (by omega)
    rw [concatenate_apply_piece 1 _ _ y 2 (by show 2 < 3; omega) S256x128 _ rfl rfl 256 rfl x (hb x hx0) (by show 256 + (x 1).val = (y 1).val; omega)]
    exact chunk_apply i 2 256 rfl (by decide) hs C x y hx0 (by omega)

/-- The tile of the embedding gradient before the tokens' rows: the point's columns, transposed, times the dequantized hidden states. -/
def deDot (i : grid0.Coords) (C : S256x384.Idx → F .fp8e5m2) (dls : S256x393.Idx → F .f32) (hh : S256x2560.Idx → F .bf16) : FVec F S384x2560 .f32 :=
  matmul dot_S384x256_S256x2560_S384x2560_1_0_0_1_n_n none (transpose S384x256 [1, 0] (dlB i C dls) transposes_S256x384_p1_0_S384x256) hh
    (constant S384x2560 .f32 0x00000000#32)

/-- The point's columns times their rows' scales, in bf16. -/
def dleB (i : grid0.Coords) (C : S256x384.Idx → F .fp8e5m2) (dls : S256x393.Idx → F .f32) (es : S1x1x384.Idx → F .f32) : FVec F S256x384 .bf16 :=
  mulf (dlB i C dls) (broadcastTo S256x384 (truncf .bf16 (shapeCast S1x384 es shapeCasts_S1x1x384_S1x384) bitsLt_bf16_f32) broadcasts_S1x384_S256x384)

/-- The printed lane of the first block. -/
theorem pay9_eq (i : grid0.Coords) : k0_pay9 i = broadcast S256x128 (rem128 (blkNo i 0)) := rfl

/-- The words the third part hands on for the second block. -/
theorem pay12_eq (i : grid0.Coords) {X : S256x512.Idx → F .f32} {dls : S256x393.Idx → F .f32} (hs : ScaleOf X dls) (C : S256x384.Idx → F .fp8e5m2) :
    k0_pay12 k0_pay8
        (k0_pay10 k0_pay8 (scaleBlk i 0 X) (k0_pay9 i) (codeBlk 0 (by decide) C))
        (k0_pay11 k0_pay8 (scaleBlk i 1 X) (Scalar.select (Scalar.cmpi .eq 128#32 0#32) 1#32 128#32)
          (Scalar.remsi (blkNo i 1) (Scalar.select (Scalar.cmpi .eq 128#32 0#32) 1#32 128#32))
          (Scalar.cmpi .ne (Scalar.remsi (blkNo i 1) (Scalar.select (Scalar.cmpi .eq 128#32 0#32) 1#32 128#32)) 0#32) (codeBlk 128 (by decide) C))
        (blkNo i 2) (scaleBlk i 2 X) (codeBlk 256 (by decide) C)
      = dlB i C dls := concat_eq i hs C

/-- The printed product, over the loads as they stand, is the tile before the tokens' rows. -/
theorem pay13_eq (i : grid0.Coords) {X : S256x512.Idx → F .f32} {dls : S256x393.Idx → F .f32} (hs : ScaleOf X dls) (C : S256x384.Idx → F .fp8e5m2)
    (hh : S256x2560.Idx → F .bf16) :
    k0_pay13 k0_pay8
        (k0_pay10 k0_pay8 (scaleBlk i 0 X) (k0_pay9 i) (codeLd 0 inb_S256x384_S256x128_0_0 C))
        (k0_pay11 k0_pay8 (scaleBlk i 1 X) (Scalar.select (Scalar.cmpi .eq 128#32 0#32) 1#32 128#32)
          (Scalar.remsi (blkNo i 1) (Scalar.select (Scalar.cmpi .eq 128#32 0#32) 1#32 128#32))
          (Scalar.cmpi .ne (Scalar.remsi (blkNo i 1) (Scalar.select (Scalar.cmpi .eq 128#32 0#32) 1#32 128#32)) 0#32)
          (codeLd 128 inb_S256x384_S256x128_0_128 C))
        (blkNo i 2) (scaleBlk i 2 X) (codeLd 256 inb_S256x384_S256x128_0_256 C) hh
      = deDot i C dls hh := by
  rw [codeBlk_eq 0 (by decide) C inb_S256x384_S256x128_0_0, codeBlk_eq 128 (by decide) C inb_S256x384_S256x128_0_128,
    codeBlk_eq 256 (by decide) C inb_S256x384_S256x128_0_256]
  unfold k0_pay13
  rw [pay12_eq i hs C]
  rfl

/-- The printed scaled columns, over the loads as they stand. -/
theorem pay14_eq (i : grid0.Coords) {X : S256x512.Idx → F .f32} {dls : S256x393.Idx → F .f32} (hs : ScaleOf X dls) (C : S256x384.Idx → F .fp8e5m2)
    (es : S1x1x384.Idx → F .f32) :
    k0_pay14 k0_pay8
        (k0_pay10 k0_pay8 (scaleBlk i 0 X) (k0_pay9 i) (codeLd 0 inb_S256x384_S256x128_0_0 C))
        (k0_pay11 k0_pay8 (scaleBlk i 1 X) (Scalar.select (Scalar.cmpi .eq 128#32 0#32) 1#32 128#32)
          (Scalar.remsi (blkNo i 1) (Scalar.select (Scalar.cmpi .eq 128#32 0#32) 1#32 128#32))
          (Scalar.cmpi .ne (Scalar.remsi (blkNo i 1) (Scalar.select (Scalar.cmpi .eq 128#32 0#32) 1#32 128#32)) 0#32)
          (codeLd 128 inb_S256x384_S256x128_0_128 C))
        (blkNo i 2) (scaleBlk i 2 X) (codeLd 256 inb_S256x384_S256x128_0_256 C) es
      = dleB i C dls es := by
  rw [codeBlk_eq 0 (by decide) C inb_S256x384_S256x128_0_0, codeBlk_eq 128 (by decide) C inb_S256x384_S256x128_0_128,
    codeBlk_eq 256 (by decide) C inb_S256x384_S256x128_0_256]
  unfold k0_pay14
  rw [pay12_eq i hs C]
  rfl

end Cert.KernelIdeal.Hand

end
-- ==== Proof.Ideal.Body.lean ====
/-
  The kernel's body at one grid point: the prologue's two counted loops, the straight line that reads the point's blocks, and the walk,
  run once from the contents the point finds.
-/
module

public import proofs.«01_k».proof.Proof.Ideal.Tile

@[expose] public section

set_option maxRecDepth 16384

noncomputable section

namespace Cert.KernelIdeal.Hand

open Cert.KernelIdeal Cert.KernelIdeal.Gen Cert.Chain
open Idealize.ShloMosaic Idealize.ShloMosaic.TcCoe Idealize.ShloMosaic.Tactic Idealize.ShloMosaic.Held
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The links of all tiles, over the two tables' contents. -/
def LinksOf (I : S256.Idx → BitVec 32) (S : S1.Idx → BitVec 32) (k : ℕ) (H : S131.Idx → BitVec 32) (N : S256.Idx → BitVec 32) : Prop :=
  Links (fun t => tileOf (S (ix1 0)) (I (ix1 t))) k (fun j => H (ix1 j)) (fun t => N (ix1 t))

/-- One token put into its tile's list, or left out, as the two tables' stores do it. -/
theorem linksOf_hit {I : S256.Idx → BitVec 32} {S : S1.Idx → BitVec 32} {H : S131.Idx → BitVec 32} {N : S256.Idx → BitVec 32} {k : ℕ} (hk : k < 256)
    (h : LinksOf I S k H N) (hit : (I (ix1 ⟨255 - k, by omega⟩) - S (ix1 0)).toNat < 50304) {off3 off4 : Fin 1 → ℕ} {w : BitVec 32}
    (h3 : off3 = ![tileOf (S (ix1 0)) (I (ix1 ⟨255 - k, by omega⟩))]) (h4 : off4 = ![255 - k]) (hw : w = BitVec.ofNat 32 (255 - k)) :
    LinksOf I S (k + 1) (VecWindow.put (s := S131) H off3 ![1] (fun _ => w))
      (VecWindow.put (s := S256) N off4 ![1] (fun _ => H (ix1 ⟨tileOf (S (ix1 0)) (I (ix1 ⟨255 - k, by omega⟩)), by unfold tileOf; omega⟩))) := by
  subst hw
  refine Links.hit hk h ⟨tileOf (S (ix1 0)) (I (ix1 ⟨255 - k, by omega⟩)), by unfold tileOf; omega⟩ rfl (fun j => ?_) (fun t => ?_)
  · exact put_word H _ j h3 _
  · exact put_word N ⟨255 - k, by omega⟩ t h4 _

/-- The counted loop, as the program spells it. -/
theorem wp_loop (c : Dev nD) (l : Scf.Loop 32) (hok : l.OK) (body : Fin l.trips → Unit → Prog (TpuEff nD τ sig (Elt F) (Λ₀ F) .tc) Unit) (J : ℕ → sProp 𝕄)
    (hbody : ∀ (k : Fin l.trips) (acc : Unit), J k.val ⊢ wp frame (wpE (defs₀ (F := F)) 𝒱₀ (c : Thread nD τ) none) Set.univ (body k acc) (fun _ => J (k.val + 1))) (Q : Unit → sProp 𝕄) :
    J 0 ⊢ iprop((J l.trips -∗ Q ⟨⟩) -∗ wp frame (wpE (defs₀ (F := F)) 𝒱₀ (c : Thread nD τ) none) Set.univ (Scf.Loop.for l hok ⟨⟩ body) Q) := by
  have := Scf.wp_for frame (wpE (defs₀ (F := F)) 𝒱₀ (c : Thread nD τ) none) Set.univ l.lb l.ub l.st hok ⟨⟩ body (fun k _ => J k) hbody (Q := Q)
  iintro H Hk
  iapply this
  isplitl [H]; · iexact H
  iintro %acc H
  iapply Hk
  iexact H

section Body

variable (c : Dev nD) (i : grid0.Coords)
  (arg1 : Memref sig .tc .smem S256 .i32) (harg1 : arg1.IsWhole)
  (arg2 : Memref sig .tc .smem S1 .i32) (harg2 : arg2.IsWhole)
  (arg3 : Memref sig .tc .vmem S256x384 .fp8e5m2) (harg3 : arg3.IsWhole)
  (arg4 : Memref sig .tc .vmem S256x393 .f32) (harg4 : arg4.IsWhole)
  (arg5 : Memref sig .tc .vmem S256x2560 .fp8e4m3) (harg5 : arg5.IsWhole)
  (arg6 : Memref sig .tc .vmem S256x1 .f32) (harg6 : arg6.IsWhole)
  (arg7 : Memref sig .tc .vmem S384x2560 .i8) (harg7 : arg7.IsWhole)
  (arg8 : Memref sig .tc .vmem S1x1x384 .f32) (harg8 : arg8.IsWhole)
  (arg9 : Memref sig .tc .vmem S256x2560 .bf16) (harg9 : arg9.IsWhole)
  (arg10 : Memref sig .tc .vmem S384x2560 .f32) (harg10 : arg10.IsWhole)
  (arg11 : Memref sig .tc .vmem S256x2560 .bf16) (harg11 : arg11.IsWhole)
  (arg12 : Memref sig .tc .vmem S256x512 .f32) (harg12 : arg12.IsWhole)
  (arg13 : Memref sig .tc .vmem S256x2560 .bf16) (harg13 : arg13.IsWhole)
  (arg14 : Memref sig .tc .vmem S256x2560 .f32) (harg14 : arg14.IsWhole)
  (arg15 : Memref sig .tc .vmem S256x2560 .f32) (harg15 : arg15.IsWhole)
  (arg16 : Memref sig .tc .smem S131 .i32) (harg16 : arg16.IsWhole)
  (arg17 : Memref sig .tc .smem S256 .i32) (harg17 : arg17.IsWhole)

section Prologue

variable (h1 : k0_cond1 i = 1#1) (I : S256.Idx → BitVec 32) (S : S1.Idx → BitVec 32)

/-- The first loop sets every head to minus one. -/
def J1 (k : ℕ) : sProp 𝕄 := iprop(∃ H : S131.Idx → BitVec 32, ⌜∀ j : Fin 131, j.val < k → H (ix1 j) = 4294967295#32⌝ ∗ owns (c : Thread nD τ) arg16 fullShare H)

theorem step1 (k : Fin k0_t1_loop.trips) (acc : Unit) :
    (J1 c arg16 k.val : sProp 𝕄) ⊢ wp frame (wpE (defs₀ (F := F)) 𝒱₀ (c : Thread nD τ) none) Set.univ (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 k acc) (fun _ => J1 c arg16 (k.val + 1)) := by
  have hk : k.val < 131 := lt_of_lt_of_eq k.isLt trips1
  unfold k0_t1_body J1
  simp only [Prog.lift, Prog.bind_op, Prog.bind_ret, Prog.pure_eq_ret, smemLoad, smemLoadElt]
  iintro ⟨%H, %hH, H16⟩
  iapply (Held.wp_word 𝒱₀ (c : Thread nD τ) none Set.univ ⟨k.val, hk⟩ (k0_off1_eq k)) $$ H16; iintro H16
  iapply (Held.wp_store 𝒱₀ (c : Thread nD τ) none Set.univ) $$ H16; iintro H16
  rw [wp_ret]; imodintro
  iexists _
  isplitr; swap
  · iexact H16
  ipureintro
  intro j hj
  refine (put_word H ⟨k.val, hk⟩ j (k0_off1_eq k) _).trans ?_
  by_cases hjk : j = ⟨k.val, hk⟩
  · rw [if_pos hjk]
  · rw [if_neg hjk]
    have hne : j.val ≠ k.val := fun e => hjk (Fin.ext e)
    exact hH j (by omega)

/-- The second loop links the tokens, last to first. -/
def J2 (k : ℕ) : sProp 𝕄 := iprop(owns (c : Thread nD τ) arg1 fullShare I
  ∗ ∃ (H : S131.Idx → BitVec 32) (N : S256.Idx → BitVec 32), ⌜LinksOf I S k H N⌝ ∗ owns (c : Thread nD τ) arg16 fullShare H ∗ owns (c : Thread nD τ) arg17 fullShare N)

theorem step2 (k : Fin k0_t2_loop.trips) (acc : Unit) :
    (J2 c arg1 arg16 arg17 I S k.val : sProp 𝕄) ⊢ wp frame (wpE (defs₀ (F := F)) 𝒱₀ (c : Thread nD τ) none) Set.univ (k0_t2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 (S (ix1 0)) k acc) (fun _ => J2 c arg1 arg16 arg17 I S (k.val + 1)) := by
  have hk : k.val < 256 := lt_of_lt_of_eq k.isLt trips2
  unfold k0_t2_body J2
  simp only [Prog.lift, Prog.bind_op, Prog.bind_ret, Prog.pure_eq_ret, smemLoad, smemLoadElt]
  iintro ⟨H1, ⟨%H, %N, %hL, H16, H17⟩⟩
  iapply (Held.wp_word 𝒱₀ (c : Thread nD τ) none Set.univ ⟨255 - k.val, by omega⟩ (k0_off2_eq k)) $$ H1; iintro H1
  iapply (wp_assume 𝒱₀ (c : Thread nD τ) none Set.univ (chk1 i _ _))
  by_cases h2 : k0_cond2 (S (ix1 0)) (I (ix1 ⟨255 - k.val, by omega⟩)) = 1#1
  · have hit := (cond2_iff _ _).mp h2
    have hT : tileOf (S (ix1 0)) (I (ix1 ⟨255 - k.val, by omega⟩)) < 131 := by unfold tileOf; omega
    simp only [h2, ↓reduceDIte, Prog.bind_op, Prog.bind_ret]
    iapply (Held.wp_word 𝒱₀ (c : Thread nD τ) none Set.univ (⟨_, hT⟩ : Fin 131) (off3_eq _ _ hit)) $$ H16; iintro H16
    iapply (Held.wp_word 𝒱₀ (c : Thread nD τ) none Set.univ ⟨255 - k.val, by omega⟩ (k0_off4_eq k)) $$ H17; iintro H17
    iapply (Held.wp_store 𝒱₀ (c : Thread nD τ) none Set.univ) $$ H17; iintro H17
    iapply (Held.wp_word 𝒱₀ (c : Thread nD τ) none Set.univ (⟨_, hT⟩ : Fin 131) (off3_eq _ _ hit)) $$ H16; iintro H16
    iapply (Held.wp_store 𝒱₀ (c : Thread nD τ) none Set.univ) $$ H16; iintro H16
    rw [wp_ret]; imodintro
    isplitl [H1]; · iexact H1
    iexists _, _
    isplitr; swap
    · isplitl [H16]; · iexact H16
      iexact H17
    ipureintro
    exact linksOf_hit hk hL hit (off3_eq _ _ hit) (k0_off4_eq k) (trip_word k)
  · have hmiss : ¬ (I (ix1 ⟨255 - k.val, by omega⟩) - S (ix1 0)).toNat < 50304 := fun h => h2 ((cond2_iff _ _).mpr h)
    simp only [h2, ↓reduceDIte, Prog.bind_ret]
    rw [wp_ret]; imodintro
    isplitl [H1]; · iexact H1
    iexists H, N
    isplitr; swap
    · isplitl [H16]; · iexact H16
      iexact H17
    ipureintro
    exact Links.miss hL (by show 131 ≤ tileOf _ _; unfold tileOf; omega)

variable (dls : S256x393.Idx → F .f32) (hc : S256x2560.Idx → F .fp8e4m3) (hs : S256x1.Idx → F .f32) (de : S256x2560.Idx → F .bf16)

/-- The prologue: from scratch at anything, the scratch holds the scales, the dequantized hidden states, the widened embedding
    gradient, zeros, and the links. -/
theorem part1_run (K : PUnit → sProp 𝕄) :
    iprop(owns (c : Thread nD τ) arg1 fullShare I ∗ owns (c : Thread nD τ) arg2 fullShare S ∗ owns (c : Thread nD τ) arg4 fullShare dls ∗ owns (c : Thread nD τ) arg5 fullShare hc ∗ owns (c : Thread nD τ) arg6 fullShare hs ∗ owns (c : Thread nD τ) arg9 fullShare de
        ∗ (∃ X : S256x512.Idx → F .f32, owns (c : Thread nD τ) arg12 fullShare X) ∗ (∃ X : S256x2560.Idx → F .bf16, owns (c : Thread nD τ) arg13 fullShare X) ∗ (∃ X : S256x2560.Idx → F .f32, owns (c : Thread nD τ) arg14 fullShare X)
        ∗ (∃ X : S256x2560.Idx → F .f32, owns (c : Thread nD τ) arg15 fullShare X) ∗ (∃ X : S131.Idx → BitVec 32, owns (c : Thread nD τ) arg16 fullShare X) ∗ (∃ X : S256.Idx → BitVec 32, owns (c : Thread nD τ) arg17 fullShare X)
        ∗ (∀ (X : S256x512.Idx → F .f32) (H : S131.Idx → BitVec 32) (N : S256.Idx → BitVec 32), ⌜ScaleOf X dls ∧ LinksOf I S 256 H N⌝ -∗
            iprop(owns (c : Thread nD τ) arg1 fullShare I ∗ owns (c : Thread nD τ) arg2 fullShare S ∗ owns (c : Thread nD τ) arg4 fullShare dls ∗ owns (c : Thread nD τ) arg5 fullShare hc ∗ owns (c : Thread nD τ) arg6 fullShare hs ∗ owns (c : Thread nD τ) arg9 fullShare de ∗ owns (c : Thread nD τ) arg12 fullShare X ∗ owns (c : Thread nD τ) arg13 fullShare (k0_pay5 hc hs) ∗ owns (c : Thread nD τ) arg14 fullShare (k0_pay6 de) ∗ owns (c : Thread nD τ) arg15 fullShare k0_pay7 ∗ owns (c : Thread nD τ) arg16 fullShare H ∗ owns (c : Thread nD τ) arg17 fullShare N) -∗ K ⟨⟩))
      ⊢ wp frame (wpE (defs₀ (F := F)) 𝒱₀ (c : Thread nD τ) none) Set.univ (k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1) K := by
  simp only [k0_part1_eq_skeleton]; unfold k0_part1_skel
  simp only [Prog.lift, Prog.bind_op, Prog.bind_ret, Prog.pure_eq_ret, smemLoad, smemLoadElt]
  iintro ⟨H1, H2, H4, H5, H6, H9, ⟨%X12, H12⟩, ⟨%X13, H13⟩, ⟨%X14, H14⟩, ⟨%X15, H15⟩, ⟨%X16, H16⟩, ⟨%X17, H17⟩, Hk⟩
  iapply (Held.wp_load_full 𝒱₀ (c : Thread nD τ) none Set.univ) $$ H4; iintro H4
  iapply (Held.wp_load 𝒱₀ (c : Thread nD τ) none Set.univ) $$ H12; iintro H12
  iapply (Held.wp_store 𝒱₀ (c : Thread nD τ) none Set.univ) $$ H12; iintro H12
  iapply (Held.wp_load_full 𝒱₀ (c : Thread nD τ) none Set.univ) $$ H5; iintro H5
  iapply (Held.wp_load_full 𝒱₀ (c : Thread nD τ) none Set.univ) $$ H6; iintro H6
  iapply (Held.wp_load_full 𝒱₀ (c : Thread nD τ) none Set.univ) $$ H13; iintro H13
  iapply (Held.wp_store_full 𝒱₀ (c : Thread nD τ) none Set.univ) $$ H13; iintro H13
  iapply (Held.wp_load_full 𝒱₀ (c : Thread nD τ) none Set.univ) $$ H9; iintro H9
  iapply (Held.wp_load_full 𝒱₀ (c : Thread nD τ) none Set.univ) $$ H14; iintro H14
  iapply (Held.wp_store_full 𝒱₀ (c : Thread nD τ) none Set.univ) $$ H14; iintro H14
  iapply (Held.wp_load_full 𝒱₀ (c : Thread nD τ) none Set.univ) $$ H15; iintro H15
  iapply (Held.wp_store_full 𝒱₀ (c : Thread nD τ) none Set.univ) $$ H15; iintro H15
  iapply (Held.wp_word 𝒱₀ (c : Thread nD τ) none Set.univ (0 : Fin 1) rfl) $$ H2; iintro H2
  rw [wp_bind]
  ihave HJ : (J1 c arg16 0 : sProp 𝕄) $$ [H16]
  · unfold J1
    iexists X16
    isplitr; swap
    · iexact H16
    ipureintro
    intro j hj
    exact absurd hj (Nat.not_lt_zero _)
  iapply (wp_loop c k0_t1_loop (k0_t1_ok i h1) _ (fun k => J1 c arg16 k) (fun k acc => step1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 k acc) _) $$ HJ
  unfold J1
  iintro ⟨%H0, %hH0, H16⟩
  rw [wp_bind]
  ihave HJ : (J2 c arg1 arg16 arg17 I S 0 : sProp 𝕄) $$ [H1 H16 H17]
  · unfold J2
    isplitl [H1]; · iexact H1
    iexists H0, X17
    isplitr; swap
    · isplitl [H16]; · iexact H16
      iexact H17
    ipureintro
    exact links_zero _ _ _ (fun j => hH0 j (by rw [trips1]; exact j.isLt))
  iapply (wp_loop c k0_t2_loop (k0_t2_ok i h1) _ (fun k => J2 c arg1 arg16 arg17 I S k) (fun k acc => step2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 I S k acc) _) $$ HJ
  unfold J2
  iintro ⟨H1, ⟨%H, %N, %hL, H16, H17⟩⟩
  rw [wp_ret]; imodintro
  iapply Hk $$ %_ %H %N
  · ipureintro
    exact ⟨scaleOf_put X12 dls, by rw [trips2] at hL; exact hL⟩
  isplitl [H1]; · iexact H1
  isplitl [H2]; · iexact H2
  isplitl [H4]; · iexact H4
  isplitl [H5]; · iexact H5
  isplitl [H6]; · iexact H6
  isplitl [H9]; · iexact H9
  isplitl [H12]; · iexact H12
  isplitl [H13]; · iexact H13
  isplitl [H14]; · iexact H14
  isplitl [H15]; · iexact H15
  isplitl [H16]; · iexact H16
  iexact H17

end Prologue

/-- What the prologue leaves and every point finds: the ids, the first row and the prologue's blocks, the scales, the dequantized hidden
    states, the widened embedding gradient, the running sum at `A`, and the links. -/
def Mid (I : S256.Idx → BitVec 32) (S : S1.Idx → BitVec 32) (dls : S256x393.Idx → F .f32) (hc : S256x2560.Idx → F .fp8e4m3) (hs : S256x1.Idx → F .f32)
    (de : S256x2560.Idx → F .bf16) (A : S256x2560.Idx → F .f32) (X : S256x512.Idx → F .f32) (H : S131.Idx → BitVec 32) (N : S256.Idx → BitVec 32) : sProp 𝕄 :=
  iprop(owns (c : Thread nD τ) arg1 fullShare I ∗ owns (c : Thread nD τ) arg2 fullShare S ∗ owns (c : Thread nD τ) arg4 fullShare dls ∗ owns (c : Thread nD τ) arg5 fullShare hc ∗ owns (c : Thread nD τ) arg6 fullShare hs ∗ owns (c : Thread nD τ) arg9 fullShare de ∗ owns (c : Thread nD τ) arg12 fullShare X ∗ owns (c : Thread nD τ) arg13 fullShare (k0_pay5 hc hs) ∗ owns (c : Thread nD τ) arg14 fullShare (k0_pay6 de) ∗ owns (c : Thread nD τ) arg15 fullShare A ∗ owns (c : Thread nD τ) arg16 fullShare H ∗ owns (c : Thread nD τ) arg17 fullShare N)

section Run

variable (I : S256.Idx → BitVec 32) (S : S1.Idx → BitVec 32) (dls : S256x393.Idx → F .f32) (hc : S256x2560.Idx → F .fp8e4m3) (hs : S256x1.Idx → F .f32)
  (de : S256x2560.Idx → F .bf16) (A : S256x2560.Idx → F .f32)

/-- The first part at the first point: the prologue, then the first block of scales. -/
theorem part2_first (h1 : k0_cond1 i = 1#1) (K : (Σ' (_ : BitVec 32) (_ : IVec S256x128 32) (_ : Vec F S256x128 .f32), IVec S256x128 32) → sProp 𝕄) :
    iprop(iprop(owns (c : Thread nD τ) arg1 fullShare I ∗ owns (c : Thread nD τ) arg2 fullShare S ∗ owns (c : Thread nD τ) arg4 fullShare dls ∗ owns (c : Thread nD τ) arg5 fullShare hc ∗ owns (c : Thread nD τ) arg6 fullShare hs ∗ owns (c : Thread nD τ) arg9 fullShare de
        ∗ (∃ X : S256x512.Idx → F .f32, owns (c : Thread nD τ) arg12 fullShare X) ∗ (∃ X : S256x2560.Idx → F .bf16, owns (c : Thread nD τ) arg13 fullShare X) ∗ (∃ X : S256x2560.Idx → F .f32, owns (c : Thread nD τ) arg14 fullShare X)
        ∗ (∃ X : S256x2560.Idx → F .f32, owns (c : Thread nD τ) arg15 fullShare X) ∗ (∃ X : S131.Idx → BitVec 32, owns (c : Thread nD τ) arg16 fullShare X) ∗ (∃ X : S256.Idx → BitVec 32, owns (c : Thread nD τ) arg17 fullShare X))
        ∗ (∀ (X : S256x512.Idx → F .f32) (H : S131.Idx → BitVec 32) (N : S256.Idx → BitVec 32), ⌜ScaleOf X dls ∧ LinksOf I S 256 H N⌝ -∗
            (Mid c arg1 arg2 arg4 arg5 arg6 arg9 arg12 arg13 arg14 arg15 arg16 arg17 I S dls hc hs de k0_pay7 X H N) -∗ K ⟨BitVec.ofNat 32 (i 0).val, k0_pay8, scaleBlk i 0 X, k0_pay9 i⟩))
      ⊢ wp frame (wpE (defs₀ (F := F)) 𝒱₀ (c : Thread nD τ) none) Set.univ (k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [k0_part2_eq_skeleton]; unfold k0_part2_skel
  simp only [h1, ↓reduceDIte]
  rw [wp_bind, wp_bind]
  iintro ⟨⟨H1, H2, H4, H5, H6, H9, H12, H13, H14, H15, H16, H17⟩, Hk⟩
  iapply (part1_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 h1 I S dls hc hs de _)
  isplitl [H1]; · iexact H1
  isplitl [H2]; · iexact H2
  isplitl [H4]; · iexact H4
  isplitl [H5]; · iexact H5
  isplitl [H6]; · iexact H6
  isplitl [H9]; · iexact H9
  isplitl [H12]; · iexact H12
  isplitl [H13]; · iexact H13
  isplitl [H14]; · iexact H14
  isplitl [H15]; · iexact H15
  isplitl [H16]; · iexact H16
  isplitl [H17]; · iexact H17

  iintro %X %H %N %hX ⟨H1, H2, H4, H5, H6, H9, H12, H13, H14, H15, H16, H17⟩
  simp only [Prog.pure_eq_ret, Prog.lift, Prog.bind_op, Prog.bind_ret]
  iapply (Held.wp_load 𝒱₀ (c : Thread nD τ) none Set.univ) $$ H12; iintro H12
  rw [wp_ret]; imodintro
  rw [wp_ret]; imodintro
  ihave HK : iprop(K ⟨BitVec.ofNat 32 (i 0).val, k0_pay8, scaleBlk i 0 X, k0_pay9 i⟩) $$ [- ]
  · iapply Hk $$ %X %H %N
    · ipureintro; exact hX
    unfold Mid
    isplitl [H1]; · iexact H1
    isplitl [H2]; · iexact H2
    isplitl [H4]; · iexact H4
    isplitl [H5]; · iexact H5
    isplitl [H6]; · iexact H6
    isplitl [H9]; · iexact H9
    isplitl [H12]; · iexact H12
    isplitl [H13]; · iexact H13
    isplitl [H14]; · iexact H14
    isplitl [H15]; · iexact H15
    isplitl [H16]; · iexact H16
    iexact H17

  istop; refine BIBase.Entails.of_eq (congrArg K ?_)
  congr 3

/-- The first part at a later point: the first block of scales alone. -/
theorem part2_later (h1 : ¬ k0_cond1 i = 1#1) (K : (Σ' (_ : BitVec 32) (_ : IVec S256x128 32) (_ : Vec F S256x128 .f32), IVec S256x128 32) → sProp 𝕄) :
    iprop((∃ (X : S256x512.Idx → F .f32) (H : S131.Idx → BitVec 32) (N : S256.Idx → BitVec 32), ⌜ScaleOf X dls ∧ LinksOf I S 256 H N⌝ ∗ Mid c arg1 arg2 arg4 arg5 arg6 arg9 arg12 arg13 arg14 arg15 arg16 arg17 I S dls hc hs de A X H N)
        ∗ (∀ (X : S256x512.Idx → F .f32) (H : S131.Idx → BitVec 32) (N : S256.Idx → BitVec 32), ⌜ScaleOf X dls ∧ LinksOf I S 256 H N⌝ -∗
            (Mid c arg1 arg2 arg4 arg5 arg6 arg9 arg12 arg13 arg14 arg15 arg16 arg17 I S dls hc hs de A X H N) -∗ K ⟨BitVec.ofNat 32 (i 0).val, k0_pay8, scaleBlk i 0 X, k0_pay9 i⟩))
      ⊢ wp frame (wpE (defs₀ (F := F)) 𝒱₀ (c : Thread nD τ) none) Set.univ (k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [k0_part2_eq_skeleton]; unfold k0_part2_skel
  simp only [h1, ↓reduceDIte, Prog.pure_eq_ret, Prog.lift, Prog.bind_op, Prog.bind_ret]
  unfold Mid
  iintro ⟨⟨%X, %H, %N, %hX, H1, H2, H4, H5, H6, H9, H12, H13, H14, H15, H16, H17⟩, Hk⟩
  iapply (Held.wp_load 𝒱₀ (c : Thread nD τ) none Set.univ) $$ H12; iintro H12
  rw [wp_ret]; imodintro
  ihave HK : iprop(K ⟨BitVec.ofNat 32 (i 0).val, k0_pay8, scaleBlk i 0 X, k0_pay9 i⟩) $$ [- ]
  · iapply Hk $$ %X %H %N
    · ipureintro; exact hX
    isplitl [H1]; · iexact H1
    isplitl [H2]; · iexact H2
    isplitl [H4]; · iexact H4
    isplitl [H5]; · iexact H5
    isplitl [H6]; · iexact H6
    isplitl [H9]; · iexact H9
    isplitl [H12]; · iexact H12
    isplitl [H13]; · iexact H13
    isplitl [H14]; · iexact H14
    isplitl [H15]; · iexact H15
    isplitl [H16]; · iexact H16
    iexact H17

  istop; refine BIBase.Entails.of_eq (congrArg K ?_)
  congr 3

variable (C : S256x384.Idx → F .fp8e5m2) (e : S384x2560.Idx → BitVec 8) (es : S1x1x384.Idx → F .f32)

/-- The tile the point leaves: the product, with the rows of the tile's tokens added in the order of the links. -/
def deOut : S384x2560.Idx → F .f32 :=
  addRows (fun t => I (ix1 t)) (S (ix1 0)) (k0_pay6 de) (deDot i C dls (k0_pay5 hc hs)) (chain (fun t => tileOf (S (ix1 0)) (I (ix1 t))) 256 (i 0).val)

/-- The running sum the point leaves. -/
def accOut : S256x2560.Idx → F .f32 := k0_pay1 (dleB i C dls es) A e

/-- The whole body, from a first part that reaches the common state. -/
theorem body_run (P : sProp 𝕄)
    (hP : ∀ K : (Σ' (_ : BitVec 32) (_ : IVec S256x128 32) (_ : Vec F S256x128 .f32), IVec S256x128 32) → sProp 𝕄,
      iprop(P ∗ (∀ (X : S256x512.Idx → F .f32) (H : S131.Idx → BitVec 32) (N : S256.Idx → BitVec 32), ⌜ScaleOf X dls ∧ LinksOf I S 256 H N⌝ -∗
            (Mid c arg1 arg2 arg4 arg5 arg6 arg9 arg12 arg13 arg14 arg15 arg16 arg17 I S dls hc hs de A X H N) -∗ K ⟨BitVec.ofNat 32 (i 0).val, k0_pay8, scaleBlk i 0 X, k0_pay9 i⟩))
        ⊢ wp frame (wpE (defs₀ (F := F)) 𝒱₀ (c : Thread nD τ) none) Set.univ (k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K)
    (d11 : S256x2560.Idx → F .bf16) (K : PUnit → sProp 𝕄) :
    iprop(P ∗ owns (c : Thread nD τ) arg3 fullShare C ∗ owns (c : Thread nD τ) arg7 fullShare e ∗ owns (c : Thread nD τ) arg8 fullShare es
        ∗ (∃ Z : S384x2560.Idx → F .f32, owns (c : Thread nD τ) arg10 fullShare Z) ∗ owns (c : Thread nD τ) arg11 fullShare d11
        ∗ (∀ (X : S256x512.Idx → F .f32) (H : S131.Idx → BitVec 32) (N : S256.Idx → BitVec 32), ⌜ScaleOf X dls ∧ LinksOf I S 256 H N⌝ -∗
            iprop((Mid c arg1 arg2 arg4 arg5 arg6 arg9 arg12 arg13 arg14 arg15 arg16 arg17 I S dls hc hs de (accOut i dls A C e es) X H N) ∗ owns (c : Thread nD τ) arg3 fullShare C ∗ owns (c : Thread nD τ) arg7 fullShare e
              ∗ owns (c : Thread nD τ) arg8 fullShare es ∗ owns (c : Thread nD τ) arg10 fullShare (deOut i I S dls hc hs de C)
              ∗ owns (c : Thread nD τ) arg11 fullShare (if (i 0).val = 130 then k0_pay2 (accOut i dls A C e es) else d11)) -∗ K ⟨⟩))
      ⊢ wp frame (wpE (defs₀ (F := F)) 𝒱₀ (c : Thread nD τ) none) Set.univ (cc0_tied_embedding_backward i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_tied_embedding_backward_eq_skeleton]; unfold cc0_tied_embedding_backward_skel
  rw [wp_bind]
  iintro ⟨HP, H3, H7, H8, ⟨%Z, H10⟩, H11, Hk⟩
  iapply (hP _)
  isplitl [HP]; · iexact HP
  iintro %X %H %N %hX HM
  unfold Mid
  icases HM with ⟨H1, H2, H4, H5, H6, H9, H12, H13, H14, H15, H16, H17⟩
  simp only [k0_part3_eq_skeleton, k0_part4_eq_skeleton, k0_part5_eq_skeleton]
  unfold k0_part3_skel k0_part4_skel k0_part5_skel
  simp only [Prog.pure_eq_ret, Prog.lift, Prog.bind_op, Prog.bind_ret, smemLoad, smemLoadElt]
  iapply (Held.wp_load 𝒱₀ (c : Thread nD τ) none Set.univ) $$ H3; iintro H3
  iapply (Held.wp_load 𝒱₀ (c : Thread nD τ) none Set.univ) $$ H12; iintro H12
  iapply (Held.wp_load 𝒱₀ (c : Thread nD τ) none Set.univ) $$ H3; iintro H3
  iapply (Held.wp_load 𝒱₀ (c : Thread nD τ) none Set.univ) $$ H12; iintro H12
  iapply (Held.wp_load 𝒱₀ (c : Thread nD τ) none Set.univ) $$ H3; iintro H3
  iapply (Held.wp_load_full 𝒱₀ (c : Thread nD τ) none Set.univ) $$ H13; iintro H13
  iapply (Held.wp_load_full 𝒱₀ (c : Thread nD τ) none Set.univ) $$ H10; iintro H10
  iapply (Held.wp_store_full 𝒱₀ (c : Thread nD τ) none Set.univ) $$ H10; iintro H10
  iapply (Held.wp_load_full 𝒱₀ (c : Thread nD τ) none Set.univ) $$ H8; iintro H8
  iapply (Held.wp_load_full 𝒱₀ (c : Thread nD τ) none Set.univ) $$ H15; iintro H15
  iapply (Held.wp_load_full 𝒱₀ (c : Thread nD τ) none Set.univ) $$ H7; iintro H7
  iapply (Held.wp_load_full 𝒱₀ (c : Thread nD τ) none Set.univ) $$ H15; iintro H15
  iapply (Held.wp_store_full 𝒱₀ (c : Thread nD τ) none Set.univ) $$ H15; iintro H15
  iapply (Held.wp_word 𝒱₀ (c : Thread nD τ) none Set.univ (⟨(i 0).val, (i 0).isLt⟩ : Fin 131) (k0_off6_eq i)) $$ H16; iintro H16
  iapply (wp_call_spec 𝒱₀ (c : Thread nD τ) none Set.univ
    (spec c arg1 arg2 arg10 arg14 arg17 I S (k0_pay6 de) N (deDot i C dls (k0_pay5 hc hs)) (chain (fun t => tileOf (S (ix1 0)) (I (ix1 t))) 256 (i 0).val))
    (chain (fun t => tileOf (S (ix1 0)) (I (ix1 t))) 256 (i 0).val).length (fun u hu => nomatch hu)
    (spec_le c i arg1 harg1 arg2 harg2 arg10 harg10 arg14 harg14 arg17 harg17 I S (k0_pay6 de) N Set.univ _ _ _
      (fun t ht => tile_of_mem_chain ht) (hX.2 ⟨(i 0).val, (i 0).isLt⟩)))
  rw [spec_apply]; unfold held
  isplitl [H1 H2 H10 H14 H17]
  · isplitl [H1]; · iexact H1
    isplitl [H2]; · iexact H2
    isplitl [H10]
    · rw [← pay13_eq i hX.1 C (k0_pay5 hc hs)]
      iexact H10
    isplitl [H14]; · iexact H14
    iexact H17
  iintro %r ⟨H1, H2, H10, H14, H17⟩
  ihave H15 : (owns (c : Thread nD τ) arg15 fullShare (accOut i dls A C e es) : sProp 𝕄) $$ [H15]
  · unfold accOut
    rw [← pay14_eq i hX.1 C es]
    iexact H15
  by_cases h3 : k0_cond3 i = 1#1
  · simp only [h3, ↓reduceDIte, Prog.bind_op, Prog.bind_ret]
    iapply (Held.wp_load_full 𝒱₀ (c : Thread nD τ) none Set.univ) $$ H15; iintro H15
    iapply (Held.wp_load_full 𝒱₀ (c : Thread nD τ) none Set.univ) $$ H11; iintro H11
    iapply (Held.wp_store_full 𝒱₀ (c : Thread nD τ) none Set.univ) $$ H11; iintro H11
    rw [wp_ret]; imodintro
    iapply Hk $$ %X %H %N
    · ipureintro; exact hX
    rw [if_pos ((cond3_iff i).mp h3)]
    isplitl [H1 H2 H4 H5 H6 H9 H12 H13 H14 H15 H16 H17]
    · isplitl [H1]; · iexact H1
      isplitl [H2]; · iexact H2
      isplitl [H4]; · iexact H4
      isplitl [H5]; · iexact H5
      isplitl [H6]; · iexact H6
      isplitl [H9]; · iexact H9
      isplitl [H12]; · iexact H12
      isplitl [H13]; · iexact H13
      isplitl [H14]; · iexact H14
      isplitl [H15]; · iexact H15
      isplitl [H16]; · iexact H16
      iexact H17
    isplitl [H3]; · iexact H3
    isplitl [H7]; · iexact H7
    isplitl [H8]; · iexact H8
    isplitl [H10]; · iexact H10
    iexact H11

  · simp only [h3, ↓reduceDIte, Prog.bind_op, Prog.bind_ret]
    rw [wp_ret]; imodintro
    iapply Hk $$ %X %H %N
    · ipureintro; exact hX
    rw [if_neg fun h => h3 ((cond3_iff i).mpr h)]
    isplitl [H1 H2 H4 H5 H6 H9 H12 H13 H14 H15 H16 H17]
    · isplitl [H1]; · iexact H1
      isplitl [H2]; · iexact H2
      isplitl [H4]; · iexact H4
      isplitl [H5]; · iexact H5
      isplitl [H6]; · iexact H6
      isplitl [H9]; · iexact H9
      isplitl [H12]; · iexact H12
      isplitl [H13]; · iexact H13
      isplitl [H14]; · iexact H14
      isplitl [H15]; · iexact H15
      isplitl [H16]; · iexact H16
      iexact H17
    isplitl [H3]; · iexact H3
    isplitl [H7]; · iexact H7
    isplitl [H8]; · iexact H8
    isplitl [H10]; · iexact H10
    iexact H11

end Run

end Body

end Cert.KernelIdeal.Hand

end
-- ==== Proof.Ideal.Run.lean ====
/-
  The kernel's run: what the six scratch buffers hold between two grid points, the pipeline's proof data, the body obligation, and the
  run of the whole program, at any float values.
-/
module

public import proofs.«01_k».proof.Proof.Ideal.Body
public import proofs.«01_k».proof.Proof.Gen.KernelIdeal.Launch
public import proofs.«01_k».proof.Proof.Gen.KernelIdeal.Points
public import Idealize.ShloMosaic.Lib.Pipeline.ValueKit

@[expose] public section

set_option maxRecDepth 16384

noncomputable section

namespace Cert.KernelIdeal.Hand

open Cert.KernelIdeal Cert.KernelIdeal.Gen Cert.Chain
open Idealize.ShloMosaic Idealize.ShloMosaic.TcCoe Idealize.ShloMosaic.Tactic Idealize.ShloMosaic.Held
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays and their blocks -/

/-- Core `c`'s buffers when the region is entered: after the reshapes before it. -/
abbrev V (c : Dev nD) (b : Ref sig .tc) : Buf (Elt F) ((c : Thread nD τ).loc b) := StableHlo.after hostOps0 (fun b => m (c, b)) b

/-- Window `w`'s block at point `t`. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The ids, the first row, the scales, the hidden states' codes and scales, and the prologue's gradient, as the body's prologue reads them. -/
def idsA (c : Dev nD) : S256.Idx → BitVec 32 := V m c main_v0
def startA (c : Dev nD) : S1.Idx → BitVec 32 := V m c main_arg7
def dlsA (c : Dev nD) : S256x393.Idx → F .f32 := V m c main_v2
def hcA (c : Dev nD) : S256x2560.Idx → F .fp8e4m3 := V m c main_v3
def hsA (c : Dev nD) : S256x1.Idx → F .f32 := V m c main_v4
def dembA (c : Dev nD) : S256x2560.Idx → F .bf16 := V m c main_v6

/-- The point's coordinate is its number. -/
theorem coord_val : ∀ t : Fin grid0.N, (grid0.coords t 0).val = t.val := by decide +kernel

theorem idx_zero {a b n : ℕ} (h : a = 0) : a * n + b = b := by subst h; omega
theorem index0_0 : ∀ t : Fin grid0.N, win0_0.index t = ![0] := by decide +kernel
/-- Window 0's block is its whole array at every point. -/
theorem iblk_0 (c : Dev nD) (t : Fin (cfg0 (F := F)).N) : iblk m c 0 t = idsA m c := by
  funext x
  unfold idsA
  blk_ext [iblk]
  all_goals first | exact congrFun (index0_0 t) 0 | exact idx_zero (congrFun (index0_0 t) 0) | exact idx_zero (congrFun (index0_0 t) 1)
theorem index0_1 : ∀ t : Fin grid0.N, win0_1.index t = ![0] := by decide +kernel
/-- Window 1's block is its whole array at every point. -/
theorem iblk_1 (c : Dev nD) (t : Fin (cfg0 (F := F)).N) : iblk m c 1 t = startA m c := by
  funext x
  unfold startA
  blk_ext [iblk]
  all_goals first | exact congrFun (index0_1 t) 0 | exact idx_zero (congrFun (index0_1 t) 0) | exact idx_zero (congrFun (index0_1 t) 1)
theorem index0_3 : ∀ t : Fin grid0.N, win0_3.index t = ![0, 0] := by decide +kernel
/-- Window 3's block is its whole array at every point. -/
theorem iblk_3 (c : Dev nD) (t : Fin (cfg0 (F := F)).N) : iblk m c 3 t = dlsA m c := by
  funext x
  unfold dlsA
  blk_ext [iblk]
  all_goals first | exact congrFun (index0_3 t) 0 | exact idx_zero (congrFun (index0_3 t) 0) | exact idx_zero (congrFun (index0_3 t) 1)
theorem index0_4 : ∀ t : Fin grid0.N, win0_4.index t = ![0, 0] := by decide +kernel
/-- Window 4's block is its whole array at every point. -/
theorem iblk_4 (c : Dev nD) (t : Fin (cfg0 (F := F)).N) : iblk m c 4 t = hcA m c := by
  funext x
  unfold hcA
  blk_ext [iblk]
  all_goals first | exact congrFun (index0_4 t) 0 | exact idx_zero (congrFun (index0_4 t) 0) | exact idx_zero (congrFun (index0_4 t) 1)
theorem index0_5 : ∀ t : Fin grid0.N, win0_5.index t = ![0, 0] := by decide +kernel
/-- Window 5's block is its whole array at every point. -/
theorem iblk_5 (c : Dev nD) (t : Fin (cfg0 (F := F)).N) : iblk m c 5 t = hsA m c := by
  funext x
  unfold hsA
  blk_ext [iblk]
  all_goals first | exact congrFun (index0_5 t) 0 | exact idx_zero (congrFun (index0_5 t) 0) | exact idx_zero (congrFun (index0_5 t) 1)
theorem index0_8 : ∀ t : Fin grid0.N, win0_8.index t = ![0, 0] := by decide +kernel
/-- Window 8's block is its whole array at every point. -/
theorem iblk_8 (c : Dev nD) (t : Fin (cfg0 (F := F)).N) : iblk m c 8 t = dembA m c := by
  funext x
  unfold dembA
  blk_ext [iblk]
  all_goals first | exact congrFun (index0_8 t) 0 | exact idx_zero (congrFun (index0_8 t) 0) | exact idx_zero (congrFun (index0_8 t) 1)

/-! ## Between two points -/

/-- The running sum before point `n`. -/
def accAt (c : Dev nD) : ℕ → S256x2560.Idx → F .f32
  | 0 => k0_pay7
  | n + 1 => if h : n < grid0.N then accOut (grid0.coords ⟨n, h⟩) (dlsA m c) (accAt c n) (iblk m c 2 ⟨n, h⟩) (iblk m c 6 ⟨n, h⟩) (iblk m c 7 ⟨n, h⟩) else accAt c n

theorem accAt_succ (c : Dev nD) (t : Fin grid0.N) :
    accAt m c (t.val + 1) = accOut (grid0.coords t) (dlsA m c) (accAt m c t.val) (iblk m c 2 t) (iblk m c 6 t) (iblk m c 7 t) := by
  show (if h : t.val < grid0.N then _ else _) = _
  rw [dif_pos t.isLt]

abbrev sM0 : Memref sig .tc .vmem S256x512 .f32 := Memref.whole cc0_scratch0
abbrev sM1 : Memref sig .tc .vmem S256x2560 .bf16 := Memref.whole cc0_scratch1
abbrev sM2 : Memref sig .tc .vmem S256x2560 .f32 := Memref.whole cc0_scratch2
abbrev sM3 : Memref sig .tc .vmem S256x2560 .f32 := Memref.whole cc0_scratch3
abbrev sM4 : Memref sig .tc .smem S131 .i32 := Memref.whole cc0_scratch4
abbrev sM5 : Memref sig .tc .smem S256 .i32 := Memref.whole cc0_scratch5

/-- The six scratch buffers at any contents. -/
def scrAny (c : Dev nD) : sProp 𝕄 :=
  iprop((∃ X : S256x512.Idx → F .f32, owns (c : Thread nD τ) sM0 fullShare X) ∗ (∃ X : S256x2560.Idx → F .bf16, owns (c : Thread nD τ) sM1 fullShare X)
    ∗ (∃ X : S256x2560.Idx → F .f32, owns (c : Thread nD τ) sM2 fullShare X) ∗ (∃ X : S256x2560.Idx → F .f32, owns (c : Thread nD τ) sM3 fullShare X)
    ∗ (∃ X : S131.Idx → BitVec 32, owns (c : Thread nD τ) sM4 fullShare X) ∗ (∃ X : S256.Idx → BitVec 32, owns (c : Thread nD τ) sM5 fullShare X))

/-- The six scratch buffers after the prologue: the scales, the hidden states, the gradient, the running sum at `A`, the links. -/
def scrAt (c : Dev nD) (A : S256x2560.Idx → F .f32) : sProp 𝕄 :=
  iprop(∃ (X : S256x512.Idx → F .f32) (H : S131.Idx → BitVec 32) (N : S256.Idx → BitVec 32), ⌜ScaleOf X (dlsA m c) ∧ LinksOf (idsA m c) (startA m c) 256 H N⌝
    ∗ owns (c : Thread nD τ) sM0 fullShare X ∗ owns (c : Thread nD τ) sM1 fullShare (k0_pay5 (hcA m c) (hsA m c))
    ∗ owns (c : Thread nD τ) sM2 fullShare (k0_pay6 (dembA m c)) ∗ owns (c : Thread nD τ) sM3 fullShare A
    ∗ owns (c : Thread nD τ) sM4 fullShare H ∗ owns (c : Thread nD τ) sM5 fullShare N)

/-- What holds of the scratch buffers before point `n`. -/
def scr (c : Dev nD) : ℕ → sProp 𝕄
  | 0 => scrAny c
  | n + 1 => scrAt m c (accAt m c (n + 1))

theorem scr_pos (c : Dev nD) {n : ℕ} (h : n ≠ 0) : scr m c n = scrAt m c (accAt m c n) := by
  cases n with
  | zero => exact absurd rfl h
  | succ n => rfl

/-- Any known contents are contents. -/
theorem scr_any (c : Dev nD) (n : ℕ) : scr m c n ⊢ scrAny c := by
  cases n with
  | zero => exact .rfl
  | succ n =>
    show scrAt m c _ ⊢ _
    unfold scrAt scrAny
    iintro ⟨%X, %H, %N, %hX, H0, H1, H2, H3, H4, H5⟩
    isplitl [H0]; · iexists _; iexact H0
    isplitl [H1]; · iexists _; iexact H1
    isplitl [H2]; · iexists _; iexact H2
    isplitl [H3]; · iexists _; iexact H3
    isplitl [H4]; · iexists _; iexact H4
    iexists _; iexact H5

/-- The invariant of the launch, with the scratch buffers spelled out. -/
theorem PhiA_eq (c : Dev nD) : (Pipeline.ΦA spec0 c : sProp 𝕄) = iprop(scrAny c ∗ ∃ r, prngReg c r) := by
  unfold Pipeline.ΦA scrAny
  rw [scopedRest0_eq]
  simp only [owns_whole]
  rfl

/-! ## The pipeline's proof data -/

/-- The tile the point leaves, of the run's arrays. -/
def tileAt (c : Dev nD) (t : Fin grid0.N) : S384x2560.Idx → F .f32 :=
  deOut (grid0.coords t) (idsA m c) (startA m c) (dlsA m c) (hcA m c) (hsA m c) (dembA m c) (iblk m c 2 t)

/-- The hidden states' gradient, of the last running sum. -/
def dhAt (c : Dev nD) : S256x2560.Idx → F .bf16 := k0_pay2 (accAt m c 131)

/-- The proof data: the arrays as the region finds them; each input left in place, the tile, and the last running sum; the scratch. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => tileAt m c t
    | ⟨10, _⟩ => dhAt m c
  Φ t := iprop(scr m c t.val ∗ ∃ r, prngReg c r)
  q _ := fullShare
  owed _ := 0

theorem A_eq (c : Dev nD) (w : Fin (cfg0 (F := F)).W) : (dats m 0 c).A w = V m c (Pipeline.arrRef spec0 w) := by dsimp only [dats]
theorem after0_0 (c : Dev nD) (t : Fin (cfg0 (F := F)).N) : (dats m 0 c).after 0 t = iblk m c 0 t := rfl
theorem after0_1 (c : Dev nD) (t : Fin (cfg0 (F := F)).N) : (dats m 0 c).after 1 t = iblk m c 1 t := rfl
theorem after0_2 (c : Dev nD) (t : Fin (cfg0 (F := F)).N) : (dats m 0 c).after 2 t = iblk m c 2 t := rfl
theorem after0_3 (c : Dev nD) (t : Fin (cfg0 (F := F)).N) : (dats m 0 c).after 3 t = iblk m c 3 t := rfl
theorem after0_4 (c : Dev nD) (t : Fin (cfg0 (F := F)).N) : (dats m 0 c).after 4 t = iblk m c 4 t := rfl
theorem after0_5 (c : Dev nD) (t : Fin (cfg0 (F := F)).N) : (dats m 0 c).after 5 t = iblk m c 5 t := rfl
theorem after0_6 (c : Dev nD) (t : Fin (cfg0 (F := F)).N) : (dats m 0 c).after 6 t = iblk m c 6 t := rfl
theorem after0_7 (c : Dev nD) (t : Fin (cfg0 (F := F)).N) : (dats m 0 c).after 7 t = iblk m c 7 t := rfl
theorem after0_8 (c : Dev nD) (t : Fin (cfg0 (F := F)).N) : (dats m 0 c).after 8 t = iblk m c 8 t := rfl
theorem after0_9 (c : Dev nD) (t : Fin (cfg0 (F := F)).N) : (dats m 0 c).after 9 t = tileAt m c t := rfl
theorem after0_10 (c : Dev nD) (t : Fin (cfg0 (F := F)).N) : (dats m 0 c).after 10 t = dhAt m c := rfl

theorem before0_0 (c : Dev nD) (t : Fin (cfg0 (F := F)).N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin (cfg0 (F := F)).N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin (cfg0 (F := F)).N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin (cfg0 (F := F)).N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin (cfg0 (F := F)).N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin (cfg0 (F := F)).N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin (cfg0 (F := F)).N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin (cfg0 (F := F)).N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem before0_8 (c : Dev nD) (t : Fin (cfg0 (F := F)).N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)

/-! ## The body obligation -/

/-- What the body is called with at point `t`, -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ (dats m 0 c).leavesExact 10 t)

/-- The second output's buffer, stored at the last point and handed back as found at every other. -/
theorem leaves10 (c : Dev nD) (t : Fin (cfg0 (F := F)).N) (d) (Z : S256x2560.Idx → F .bf16)
    (hZ : (grid0.coords t 0).val = 130 → Z = k0_pay2 (accAt m c (t.val + 1))) (hZ' : ¬ (grid0.coords t 0).val = 130 → Z = (dats m 0 c).before 10 t d) :
    owns (c : Thread nD τ) (st0_10 t) fullShare Z ⊢ ((dats m 0 c).leavesExact 10 t : sProp 𝕄) := by
  have hN : t.val < 131 := lt_of_lt_of_eq t.isLt N_0
  unfold Dat.leavesExact
  rw [coord_val t] at hZ hZ'
  by_cases h : t.val = 130
  · have h3 : k0_cond3 (grid0.coords t) = 1#1 := (cond3_iff _).mpr ((coord_val t).trans h)
    have hi : (cfg0 (F := F)).idle 10 ((cfg0 (F := F)).grid.coords t) = false := by
      show (!(k0_cond3 (grid0.coords t) == 1#1)) = false
      rw [h3]; rfl
    rw [hi, hZ h, h]
    exact .rfl
  · have h3 : ¬ k0_cond3 (grid0.coords t) = 1#1 := fun e => h ((coord_val t).symm.trans ((cond3_iff _).mp e))
    have hi : (cfg0 (F := F)).idle 10 ((cfg0 (F := F)).grid.coords t) = true := by
      show (!(k0_cond3 (grid0.coords t) == 1#1)) = true
      simp [h3]
    have hf : ((cfg0 (F := F)).win 10).flush t = false := Bool.eq_false_iff.mpr fun e => h (by have := (flush0_10 t).mp e; omega)
    rw [hi, hZ' h]
    simp only [hf]
    iintro H
    iexists d
    iexact H

/-- The body at any point. -/
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost
  rw [show bodyAt0 (F := F) t = cc0_tied_embedding_backward (grid0.coords t) (win0_0.stage ((cfg0 (F := F)).slots t 0)) (hstage0_0 (((cfg0 (F := F)).slots t 0).cast nbuf0_0)) (win0_1.stage ((cfg0 (F := F)).slots t 1)) (hstage0_1 (((cfg0 (F := F)).slots t 1).cast nbuf0_1)) (win0_2.stage ((cfg0 (F := F)).slots t 2)) (hstage0_2 (((cfg0 (F := F)).slots t 2).cast nbuf0_2)) (win0_3.stage ((cfg0 (F := F)).slots t 3)) (hstage0_3 (((cfg0 (F := F)).slots t 3).cast nbuf0_3)) (win0_4.stage ((cfg0 (F := F)).slots t 4)) (hstage0_4 (((cfg0 (F := F)).slots t 4).cast nbuf0_4)) (win0_5.stage ((cfg0 (F := F)).slots t 5)) (hstage0_5 (((cfg0 (F := F)).slots t 5).cast nbuf0_5)) (win0_6.stage ((cfg0 (F := F)).slots t 6)) (hstage0_6 (((cfg0 (F := F)).slots t 6).cast nbuf0_6)) (win0_7.stage ((cfg0 (F := F)).slots t 7)) (hstage0_7 (((cfg0 (F := F)).slots t 7).cast nbuf0_7)) (win0_8.stage ((cfg0 (F := F)).slots t 8)) (hstage0_8 (((cfg0 (F := F)).slots t 8).cast nbuf0_8)) (win0_9.stage ((cfg0 (F := F)).slots t 9)) (hstage0_9 (((cfg0 (F := F)).slots t 9).cast nbuf0_9)) (win0_10.stage ((cfg0 (F := F)).slots t 10)) (hstage0_10 (((cfg0 (F := F)).slots t 10).cast nbuf0_10)) sM0 (Memref.isWhole_whole _) sM1 (Memref.isWhole_whole _) sM2 (Memref.isWhole_whole _) sM3 (Memref.isWhole_whole _) sM4 (Memref.isWhole_whole _) sM5 (Memref.isWhole_whole _) from rfl]
  simp only [before0_0, before0_1, before0_2, before0_3, before0_4, before0_5, before0_6, before0_7, before0_8,
    after0_0, after0_1, after0_2, after0_3, after0_4, after0_5, after0_6, after0_7, after0_8, after0_9]
  simp only [iblk_0, iblk_1, iblk_3, iblk_4, iblk_5, iblk_8]
  rw [show (dats m 0 c).Φ t.castSucc = iprop(scr m c t.val ∗ ∃ r, prngReg c r) from rfl,
    show (dats m 0 c).Φ t.succ = iprop(scrAt m c (accAt m c (t.val + 1)) ∗ ∃ r, prngReg c r) from rfl,
    show (dats m 0 c).owesAt () t.succ = (dats m 0 c).owesAt () t.castSucc from rfl]
  have hacc := accAt_succ m c t
  have key : ∀ (P : sProp 𝕄), (∀ K : (Σ' (_ : BitVec 32) (_ : IVec S256x128 32) (_ : Vec F S256x128 .f32), IVec S256x128 32) → sProp 𝕄,
      iprop(P ∗ (∀ (X : S256x512.Idx → F .f32) (H : S131.Idx → BitVec 32) (N : S256.Idx → BitVec 32), ⌜ScaleOf X (dlsA m c) ∧ LinksOf (idsA m c) (startA m c) 256 H N⌝ -∗
            (Mid c (st0_0 t) (st0_1 t) (st0_3 t) (st0_4 t) (st0_5 t) (st0_8 t) sM0 sM1 sM2 sM3 sM4 sM5 (idsA m c) (startA m c) (dlsA m c) (hcA m c) (hsA m c) (dembA m c) (accAt m c t.val) X H N)
              -∗ K ⟨BitVec.ofNat 32 (grid0.coords t 0).val, k0_pay8, scaleBlk (grid0.coords t) 0 X, k0_pay9 (grid0.coords t)⟩))
        ⊢ wp frame (wpE (defs₀ (F := F)) 𝒱₀ (c : Thread nD τ) none) Set.univ (k0_part2 (grid0.coords t) (win0_0.stage ((cfg0 (F := F)).slots t 0)) (hstage0_0 (((cfg0 (F := F)).slots t 0).cast nbuf0_0)) (win0_1.stage ((cfg0 (F := F)).slots t 1)) (hstage0_1 (((cfg0 (F := F)).slots t 1).cast nbuf0_1)) (win0_2.stage ((cfg0 (F := F)).slots t 2)) (hstage0_2 (((cfg0 (F := F)).slots t 2).cast nbuf0_2)) (win0_3.stage ((cfg0 (F := F)).slots t 3)) (hstage0_3 (((cfg0 (F := F)).slots t 3).cast nbuf0_3)) (win0_4.stage ((cfg0 (F := F)).slots t 4)) (hstage0_4 (((cfg0 (F := F)).slots t 4).cast nbuf0_4)) (win0_5.stage ((cfg0 (F := F)).slots t 5)) (hstage0_5 (((cfg0 (F := F)).slots t 5).cast nbuf0_5)) (win0_6.stage ((cfg0 (F := F)).slots t 6)) (hstage0_6 (((cfg0 (F := F)).slots t 6).cast nbuf0_6)) (win0_7.stage ((cfg0 (F := F)).slots t 7)) (hstage0_7 (((cfg0 (F := F)).slots t 7).cast nbuf0_7)) (win0_8.stage ((cfg0 (F := F)).slots t 8)) (hstage0_8 (((cfg0 (F := F)).slots t 8).cast nbuf0_8)) (win0_9.stage ((cfg0 (F := F)).slots t 9)) (hstage0_9 (((cfg0 (F := F)).slots t 9).cast nbuf0_9)) (win0_10.stage ((cfg0 (F := F)).slots t 10)) (hstage0_10 (((cfg0 (F := F)).slots t 10).cast nbuf0_10)) sM0 (Memref.isWhole_whole _) sM1 (Memref.isWhole_whole _) sM2 (Memref.isWhole_whole _) sM3 (Memref.isWhole_whole _) sM4 (Memref.isWhole_whole _) sM5 (Memref.isWhole_whole _)) K) →
    iprop((P ∗ ∃ r, prngReg c r) ∗ (dats m 0 c).owesAt () t.castSucc ∗ owns (c : Thread nD τ) (st0_2 t) fullShare (iblk m c 2 t)
        ∗ owns (c : Thread nD τ) (st0_6 t) fullShare (iblk m c 6 t) ∗ owns (c : Thread nD τ) (st0_7 t) fullShare (iblk m c 7 t)
        ∗ (∃ d, owns (c : Thread nD τ) (st0_9 t) fullShare ((dats m 0 c).before 9 t d)) ∗ (∃ d, owns (c : Thread nD τ) (st0_10 t) fullShare ((dats m 0 c).before 10 t d)))
      ⊢ wp frame (wpE (defs₀ (F := F)) 𝒱₀ c none) Set.univ (cc0_tied_embedding_backward (grid0.coords t) (win0_0.stage ((cfg0 (F := F)).slots t 0)) (hstage0_0 (((cfg0 (F := F)).slots t 0).cast nbuf0_0)) (win0_1.stage ((cfg0 (F := F)).slots t 1)) (hstage0_1 (((cfg0 (F := F)).slots t 1).cast nbuf0_1)) (win0_2.stage ((cfg0 (F := F)).slots t 2)) (hstage0_2 (((cfg0 (F := F)).slots t 2).cast nbuf0_2)) (win0_3.stage ((cfg0 (F := F)).slots t 3)) (hstage0_3 (((cfg0 (F := F)).slots t 3).cast nbuf0_3)) (win0_4.stage ((cfg0 (F := F)).slots t 4)) (hstage0_4 (((cfg0 (F := F)).slots t 4).cast nbuf0_4)) (win0_5.stage ((cfg0 (F := F)).slots t 5)) (hstage0_5 (((cfg0 (F := F)).slots t 5).cast nbuf0_5)) (win0_6.stage ((cfg0 (F := F)).slots t 6)) (hstage0_6 (((cfg0 (F := F)).slots t 6).cast nbuf0_6)) (win0_7.stage ((cfg0 (F := F)).slots t 7)) (hstage0_7 (((cfg0 (F := F)).slots t 7).cast nbuf0_7)) (win0_8.stage ((cfg0 (F := F)).slots t 8)) (hstage0_8 (((cfg0 (F := F)).slots t 8).cast nbuf0_8)) (win0_9.stage ((cfg0 (F := F)).slots t 9)) (hstage0_9 (((cfg0 (F := F)).slots t 9).cast nbuf0_9)) (win0_10.stage ((cfg0 (F := F)).slots t 10)) (hstage0_10 (((cfg0 (F := F)).slots t 10).cast nbuf0_10)) sM0 (Memref.isWhole_whole _) sM1 (Memref.isWhole_whole _) sM2 (Memref.isWhole_whole _) sM3 (Memref.isWhole_whole _) sM4 (Memref.isWhole_whole _) sM5 (Memref.isWhole_whole _)) (fun _ => iprop((scrAt m c (accAt m c (t.val + 1)) ∗ ∃ r, prngReg c r) ∗ (dats m 0 c).owesAt () t.castSucc  ∗ owns (c : Thread nD τ) (st0_0 t) fullShare (idsA m c) ∗ owns (c : Thread nD τ) (st0_1 t) fullShare (startA m c) ∗ owns (c : Thread nD τ) (st0_2 t) fullShare (iblk m c 2 t) ∗ owns (c : Thread nD τ) (st0_3 t) fullShare (dlsA m c) ∗ owns (c : Thread nD τ) (st0_4 t) fullShare (hcA m c) ∗ owns (c : Thread nD τ) (st0_5 t) fullShare (hsA m c) ∗ owns (c : Thread nD τ) (st0_6 t) fullShare (iblk m c 6 t) ∗ owns (c : Thread nD τ) (st0_7 t) fullShare (iblk m c 7 t) ∗ owns (c : Thread nD τ) (st0_8 t) fullShare (dembA m c) ∗ owns (c : Thread nD τ) (st0_9 t) fullShare (tileAt m c t) ∗ (dats m 0 c).leavesExact 10 t)) := by
    intro P hP
    iintro ⟨⟨HP, Hg⟩, HO, H3, H7, H8, ⟨%d9, H10⟩, ⟨%d10, H11⟩⟩
    iapply (body_run c (grid0.coords t) (win0_0.stage ((cfg0 (F := F)).slots t 0)) (hstage0_0 (((cfg0 (F := F)).slots t 0).cast nbuf0_0)) (win0_1.stage ((cfg0 (F := F)).slots t 1)) (hstage0_1 (((cfg0 (F := F)).slots t 1).cast nbuf0_1)) (win0_2.stage ((cfg0 (F := F)).slots t 2)) (hstage0_2 (((cfg0 (F := F)).slots t 2).cast nbuf0_2)) (win0_3.stage ((cfg0 (F := F)).slots t 3)) (hstage0_3 (((cfg0 (F := F)).slots t 3).cast nbuf0_3)) (win0_4.stage ((cfg0 (F := F)).slots t 4)) (hstage0_4 (((cfg0 (F := F)).slots t 4).cast nbuf0_4)) (win0_5.stage ((cfg0 (F := F)).slots t 5)) (hstage0_5 (((cfg0 (F := F)).slots t 5).cast nbuf0_5)) (win0_6.stage ((cfg0 (F := F)).slots t 6)) (hstage0_6 (((cfg0 (F := F)).slots t 6).cast nbuf0_6)) (win0_7.stage ((cfg0 (F := F)).slots t 7)) (hstage0_7 (((cfg0 (F := F)).slots t 7).cast nbuf0_7)) (win0_8.stage ((cfg0 (F := F)).slots t 8)) (hstage0_8 (((cfg0 (F := F)).slots t 8).cast nbuf0_8)) (win0_9.stage ((cfg0 (F := F)).slots t 9)) (hstage0_9 (((cfg0 (F := F)).slots t 9).cast nbuf0_9)) (win0_10.stage ((cfg0 (F := F)).slots t 10)) (hstage0_10 (((cfg0 (F := F)).slots t 10).cast nbuf0_10)) sM0 (Memref.isWhole_whole _) sM1 (Memref.isWhole_whole _) sM2 (Memref.isWhole_whole _) sM3 (Memref.isWhole_whole _) sM4 (Memref.isWhole_whole _) sM5 (Memref.isWhole_whole _) (idsA m c) (startA m c) (dlsA m c) (hcA m c) (hsA m c) (dembA m c) (accAt m c t.val)
      (iblk m c 2 t) (iblk m c 6 t) (iblk m c 7 t) P hP ((dats m 0 c).before 10 t d10) _)
    isplitl [HP]; · iexact HP
    isplitl [H3]; · iexact H3
    isplitl [H7]; · iexact H7
    isplitl [H8]; · iexact H8
    isplitl [H10]; · iexists _; iexact H10
    isplitl [H11]; · iexact H11
    iintro %X %H %N %hX ⟨HM, H3, H7, H8, H10, H11⟩
    unfold Mid
    icases HM with ⟨H1, H2, H4, H5, H6, H9, H12, H13, H14, H15, H16, H17⟩
    isplitl [H12 H13 H14 H15 H16 H17 Hg]
    · isplitr [Hg]
      · unfold scrAt
        iexists X, H, N
        isplitr; · ipureintro; exact hX
        isplitl [H12]; · iexact H12
        isplitl [H13]; · iexact H13
        isplitl [H14]; · iexact H14
        isplitl [H15]; · rw [hacc]; iexact H15
        isplitl [H16]; · iexact H16
        iexact H17
      iexact Hg
    isplitl [HO]; · iexact HO
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iapply (leaves10 m c t d10 _ (fun h => (if_pos h).trans (congrArg k0_pay2 hacc.symm)) fun h => if_neg h)
    iexact H11
  by_cases h0 : t.val = 0
  · have h1 : k0_cond1 (grid0.coords t) = 1#1 := (cond1_iff _).mpr ((coord_val t).trans h0)
    rw [show accAt m c t.val = k0_pay7 from by rw [h0]; rfl] at key
    rw [show scr m c t.val = scrAny c from by rw [h0]; rfl]
    unfold scrAny
    iintro ⟨⟨HS, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10⟩
    iapply (key _ (fun K => part2_first c (grid0.coords t) (win0_0.stage ((cfg0 (F := F)).slots t 0)) (hstage0_0 (((cfg0 (F := F)).slots t 0).cast nbuf0_0)) (win0_1.stage ((cfg0 (F := F)).slots t 1)) (hstage0_1 (((cfg0 (F := F)).slots t 1).cast nbuf0_1)) (win0_2.stage ((cfg0 (F := F)).slots t 2)) (hstage0_2 (((cfg0 (F := F)).slots t 2).cast nbuf0_2)) (win0_3.stage ((cfg0 (F := F)).slots t 3)) (hstage0_3 (((cfg0 (F := F)).slots t 3).cast nbuf0_3)) (win0_4.stage ((cfg0 (F := F)).slots t 4)) (hstage0_4 (((cfg0 (F := F)).slots t 4).cast nbuf0_4)) (win0_5.stage ((cfg0 (F := F)).slots t 5)) (hstage0_5 (((cfg0 (F := F)).slots t 5).cast nbuf0_5)) (win0_6.stage ((cfg0 (F := F)).slots t 6)) (hstage0_6 (((cfg0 (F := F)).slots t 6).cast nbuf0_6)) (win0_7.stage ((cfg0 (F := F)).slots t 7)) (hstage0_7 (((cfg0 (F := F)).slots t 7).cast nbuf0_7)) (win0_8.stage ((cfg0 (F := F)).slots t 8)) (hstage0_8 (((cfg0 (F := F)).slots t 8).cast nbuf0_8)) (win0_9.stage ((cfg0 (F := F)).slots t 9)) (hstage0_9 (((cfg0 (F := F)).slots t 9).cast nbuf0_9)) (win0_10.stage ((cfg0 (F := F)).slots t 10)) (hstage0_10 (((cfg0 (F := F)).slots t 10).cast nbuf0_10)) sM0 (Memref.isWhole_whole _) sM1 (Memref.isWhole_whole _) sM2 (Memref.isWhole_whole _) sM3 (Memref.isWhole_whole _) sM4 (Memref.isWhole_whole _) sM5 (Memref.isWhole_whole _) (idsA m c) (startA m c) (dlsA m c) (hcA m c) (hsA m c) (dembA m c) h1 K))
    isplitl [HS H0 H1 H3 H4 H5 H8 Hg]
    · isplitr [Hg]
      · isplitl [H0]; · iexact H0
        isplitl [H1]; · iexact H1
        isplitl [H3]; · iexact H3
        isplitl [H4]; · iexact H4
        isplitl [H5]; · iexact H5
        isplitl [H8]; · iexact H8
        iexact HS
      iexact Hg
    isplitl [HO]; · iexact HO
    isplitl [H2]; · iexact H2
    isplitl [H6]; · iexact H6
    isplitl [H7]; · iexact H7
    isplitl [H9]; · iexact H9
    iexact H10
  · have h1 : ¬ k0_cond1 (grid0.coords t) = 1#1 := fun e => h0 ((coord_val t).symm.trans ((cond1_iff _).mp e))
    rw [scr_pos m c h0]
    iintro ⟨⟨HS, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10⟩
    iapply (key _ (fun K => part2_later c (grid0.coords t) (win0_0.stage ((cfg0 (F := F)).slots t 0)) (hstage0_0 (((cfg0 (F := F)).slots t 0).cast nbuf0_0)) (win0_1.stage ((cfg0 (F := F)).slots t 1)) (hstage0_1 (((cfg0 (F := F)).slots t 1).cast nbuf0_1)) (win0_2.stage ((cfg0 (F := F)).slots t 2)) (hstage0_2 (((cfg0 (F := F)).slots t 2).cast nbuf0_2)) (win0_3.stage ((cfg0 (F := F)).slots t 3)) (hstage0_3 (((cfg0 (F := F)).slots t 3).cast nbuf0_3)) (win0_4.stage ((cfg0 (F := F)).slots t 4)) (hstage0_4 (((cfg0 (F := F)).slots t 4).cast nbuf0_4)) (win0_5.stage ((cfg0 (F := F)).slots t 5)) (hstage0_5 (((cfg0 (F := F)).slots t 5).cast nbuf0_5)) (win0_6.stage ((cfg0 (F := F)).slots t 6)) (hstage0_6 (((cfg0 (F := F)).slots t 6).cast nbuf0_6)) (win0_7.stage ((cfg0 (F := F)).slots t 7)) (hstage0_7 (((cfg0 (F := F)).slots t 7).cast nbuf0_7)) (win0_8.stage ((cfg0 (F := F)).slots t 8)) (hstage0_8 (((cfg0 (F := F)).slots t 8).cast nbuf0_8)) (win0_9.stage ((cfg0 (F := F)).slots t 9)) (hstage0_9 (((cfg0 (F := F)).slots t 9).cast nbuf0_9)) (win0_10.stage ((cfg0 (F := F)).slots t 10)) (hstage0_10 (((cfg0 (F := F)).slots t 10).cast nbuf0_10)) sM0 (Memref.isWhole_whole _) sM1 (Memref.isWhole_whole _) sM2 (Memref.isWhole_whole _) sM3 (Memref.isWhole_whole _) sM4 (Memref.isWhole_whole _) sM5 (Memref.isWhole_whole _) (idsA m c) (startA m c) (dlsA m c) (hcA m c) (hsA m c) (dembA m c) (accAt m c t.val) h1 K))
    isplitl [HS H0 H1 H3 H4 H5 H8 Hg]
    · isplitr [Hg]
      · unfold scrAt Mid
        icases HS with ⟨%X, %H, %N, %hX, G0, G1, G2, G3, G4, G5⟩
        iexists X, H, N
        isplitr; · ipureintro; exact hX
        isplitl [H0]; · iexact H0
        isplitl [H1]; · iexact H1
        isplitl [H3]; · iexact H3
        isplitl [H4]; · iexact H4
        isplitl [H5]; · iexact H5
        isplitl [H8]; · iexact H8
        isplitl [G0]; · iexact G0
        isplitl [G1]; · iexact G1
        isplitl [G2]; · iexact G2
        isplitl [G3]; · iexact G3
        isplitl [G4]; · iexact G4
        iexact G5
      iexact Hg
    isplitl [HO]; · iexact HO
    isplitl [H2]; · iexact H2
    isplitl [H6]; · iexact H6
    isplitl [H7]; · iexact H7
    isplitl [H9]; · iexact H9
    iexact H10

/-- The body table's row at point `t`. -/
theorem defs₀_row (t : Fin (cfg0 (F := F)).N) : defs₀ (F := F) .tc (cfg0 (F := F)).body ((cfg0 (F := F)).bodyArgs t ((cfg0 (F := F)).slots t)) = bodyAt0 t := by
  unfold defs₀; rw [Defs.onTc_tc]

/-- The library's body obligation at every point. -/
theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The launch -/

theorem hostOps0_fresh : (hostOps0 : List (HloOp τ sig (Elt F))).Forall fun op => op.fresh = ∅ := by
  simp only [List.Forall]; repeat' constructor

theorem hmain : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- Every fair execution of the program ends, with every output array as the proof data folds it, every other buffer as the region
    found it, and every semaphore at zero. -/
theorem run_main :
    θ_run defs (onTc (τ := τ) (main (F := F))) (s₀ m ρ)
      (fun r => Pipeline.FramePost cfgs (dats m) 0 (V m) r ∧ r.2.sem = fun _ => 0) :=
  Pipeline.θ_run_frame_track (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m) (hA := A_eq m)
    (hin := fun c => by rw [PhiA_eq]; exact .rfl)
    (hout := fun c => by
      rw [PhiA_eq]
      show iprop(scr m c _ ∗ ∃ r, prngReg c r) ⊢ _
      iintro ⟨HS, Hg⟩
      isplitl [HS]
      · iapply (scr_any m c _)
        iexact HS
      iexact Hg)
    (hQ' := fun _ h => h)

/-! ## The frame -/

/-- The values the region is entered with at a buffer no reshape writes are the launch's. -/
theorem V_of (c : Dev nD) (b : Ref sig .tc) (hb : (hostOps0 : List (HloOp τ sig (Elt F))).Forall fun op => Proc.devRef (τ := τ) .tc b ∉ op.writes) :
    V m c b = m ((c : Thread nD τ).loc b) :=
  StableHlo.after_of_forall_not_mem (b := Proc.devRef .tc b) _ _ (List.forall_iff_forall_mem.mp hb)

theorem V_main_arg0 (c : Dev nD) : V m c main_arg0 = m ((c : Thread nD τ).loc main_arg0) :=
  V_of m c main_arg0 (by
    simp only [List.Forall, StableHlo.reshape_writes, Finset.mem_singleton]
    repeat' apply And.intro
    all_goals exact StableHlo.devRef_ne_of_ne (by decide))
theorem V_main_arg1 (c : Dev nD) : V m c main_arg1 = m ((c : Thread nD τ).loc main_arg1) :=
  V_of m c main_arg1 (by
    simp only [List.Forall, StableHlo.reshape_writes, Finset.mem_singleton]
    repeat' apply And.intro
    all_goals exact StableHlo.devRef_ne_of_ne (by decide))
theorem V_main_arg2 (c : Dev nD) : V m c main_arg2 = m ((c : Thread nD τ).loc main_arg2) :=
  V_of m c main_arg2 (by
    simp only [List.Forall, StableHlo.reshape_writes, Finset.mem_singleton]
    repeat' apply And.intro
    all_goals exact StableHlo.devRef_ne_of_ne (by decide))
theorem V_main_arg3 (c : Dev nD) : V m c main_arg3 = m ((c : Thread nD τ).loc main_arg3) :=
  V_of m c main_arg3 (by
    simp only [List.Forall, StableHlo.reshape_writes, Finset.mem_singleton]
    repeat' apply And.intro
    all_goals exact StableHlo.devRef_ne_of_ne (by decide))
theorem V_main_arg4 (c : Dev nD) : V m c main_arg4 = m ((c : Thread nD τ).loc main_arg4) :=
  V_of m c main_arg4 (by
    simp only [List.Forall, StableHlo.reshape_writes, Finset.mem_singleton]
    repeat' apply And.intro
    all_goals exact StableHlo.devRef_ne_of_ne (by decide))
theorem V_main_arg5 (c : Dev nD) : V m c main_arg5 = m ((c : Thread nD τ).loc main_arg5) :=
  V_of m c main_arg5 (by
    simp only [List.Forall, StableHlo.reshape_writes, Finset.mem_singleton]
    repeat' apply And.intro
    all_goals exact StableHlo.devRef_ne_of_ne (by decide))
theorem V_main_arg6 (c : Dev nD) : V m c main_arg6 = m ((c : Thread nD τ).loc main_arg6) :=
  V_of m c main_arg6 (by
    simp only [List.Forall, StableHlo.reshape_writes, Finset.mem_singleton]
    repeat' apply And.intro
    all_goals exact StableHlo.devRef_ne_of_ne (by decide))
theorem V_main_arg7 (c : Dev nD) : V m c main_arg7 = m ((c : Thread nD τ).loc main_arg7) :=
  V_of m c main_arg7 (by
    simp only [List.Forall, StableHlo.reshape_writes, Finset.mem_singleton]
    repeat' apply And.intro
    all_goals exact StableHlo.devRef_ne_of_ne (by decide))
theorem V_main_arg8 (c : Dev nD) : V m c main_arg8 = m ((c : Thread nD τ).loc main_arg8) :=
  V_of m c main_arg8 (by
    simp only [List.Forall, StableHlo.reshape_writes, Finset.mem_singleton]
    repeat' apply And.intro
    all_goals exact StableHlo.devRef_ne_of_ne (by decide))

/-- Every fair execution of the program ends, with the arguments as they were and every semaphore at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨((h.1 c).2 main_arg0 (Pipeline.mem_restRefs_of main_arg0 (by decide) (by exact (by decide : ∀ w, Pipeline.arrRef spec0 w ≠ main_arg0)))).trans (V_main_arg0 m c),
      ((h.1 c).2 main_arg1 (Pipeline.mem_restRefs_of main_arg1 (by decide) (by exact (by decide : ∀ w, Pipeline.arrRef spec0 w ≠ main_arg1)))).trans (V_main_arg1 m c),
      ((h.1 c).2 main_arg2 (Pipeline.mem_restRefs_of main_arg2 (by decide) (by exact (by decide : ∀ w, Pipeline.arrRef spec0 w ≠ main_arg2)))).trans (V_main_arg2 m c),
      ((h.1 c).2 main_arg3 (Pipeline.mem_restRefs_of main_arg3 (by decide) (by exact (by decide : ∀ w, Pipeline.arrRef spec0 w ≠ main_arg3)))).trans (V_main_arg3 m c),
      ((h.1 c).1 6).trans (((dats m 0 c).arrAt_in 6 rfl _).trans ((A_eq m c 6).trans (V_main_arg4 m c))),
      ((h.1 c).2 main_arg5 (Pipeline.mem_restRefs_of main_arg5 (by decide) (by exact (by decide : ∀ w, Pipeline.arrRef spec0 w ≠ main_arg5)))).trans (V_main_arg5 m c),
      ((h.1 c).2 main_arg6 (Pipeline.mem_restRefs_of main_arg6 (by decide) (by exact (by decide : ∀ w, Pipeline.arrRef spec0 w ≠ main_arg6)))).trans (V_main_arg6 m c),
      ((h.1 c).1 1).trans (((dats m 0 c).arrAt_in 1 rfl _).trans ((A_eq m c 1).trans (V_main_arg7 m c))),
      ((h.1 c).2 main_arg8 (Pipeline.mem_restRefs_of main_arg8 (by decide) (by exact (by decide : ∀ w, Pipeline.arrRef spec0 w ≠ main_arg8)))).trans (V_main_arg8 m c)⟩, h.2⟩) (run_main m ρ)

end Cert.KernelIdeal.Hand

end
-- ==== Proof.Spec.lean ====
/-
  What both programs compute, entry by entry, at the extended reals.
-/
module

public import Idealize.ShloMosaic.Lib.Pointwise.Index
public import Idealize.ShloMosaic.PureOps.Ideal
public import Idealize.ShloMosaic.Lib.WordCmp

@[expose] public section

set_option maxRecDepth 16384

noncomputable section

namespace Cert.Spec

open Idealize.ShloMosaic Idealize.ShloMosaic.WordCmp

/-- The logit gradient of token `s` at vocabulary entry `v`: its code times the scale of the entry's block of 128. -/
def dlS (a0 : (⟨3, ![1, 256, 50304]⟩ : Shape).Idx → EReal) (a1 : (⟨3, ![1, 256, 393]⟩ : Shape).Idx → EReal) (s : Fin 256) (v : Fin 50304) : EReal :=
  a0 (ix3 (0 : Fin 1) s v) * a1 (ix3 (0 : Fin 1) s (⟨v.val / 128, by have := v.isLt; omega⟩ : Fin 393))

/-- The hidden state of token `s`, entry `d`: its code times the token's scale. -/
def hhS (a2 : (⟨3, ![1, 256, 2560]⟩ : Shape).Idx → EReal) (a3 : (⟨2, ![1, 256]⟩ : Shape).Idx → EReal) (s : Fin 256) (d : Fin 2560) : EReal :=
  a2 (ix3 (0 : Fin 1) s d) * a3 (ix2 (0 : Fin 1) s)

/-- The embedding's row `v`, entry `d`: its integer code times the row's scale. -/
def eeS (a4 : (⟨2, ![50304, 2560]⟩ : Shape).Idx → BitVec 8) (a5 : (⟨1, ![50304]⟩ : Shape).Idx → EReal) (v : Fin 50304) (d : Fin 2560) : EReal :=
  FloatOps.sitofp (F := Ideal) (φ := .bf16) (a4 (ix2 v d)) * a5 (ix1 v)

/-- The embedding's gradient at row `v`, entry `d`: the product over the tokens, and the gradient rows of the tokens whose id, less the
    shard's start, is `v`. -/
def deS (a0 : (⟨3, ![1, 256, 50304]⟩ : Shape).Idx → EReal) (a1 : (⟨3, ![1, 256, 393]⟩ : Shape).Idx → EReal)
    (a2 : (⟨3, ![1, 256, 2560]⟩ : Shape).Idx → EReal) (a3 : (⟨2, ![1, 256]⟩ : Shape).Idx → EReal)
    (a6 : (⟨2, ![1, 256]⟩ : Shape).Idx → BitVec 32) (a7 : (⟨1, ![1]⟩ : Shape).Idx → BitVec 32)
    (a8 : (⟨3, ![1, 256, 2560]⟩ : Shape).Idx → EReal) (v : Fin 50304) (d : Fin 2560) : EReal :=
  (∑ s : Fin 256, dlS a0 a1 s v * hhS a2 a3 s d)
    + ∑ s ∈ Finset.univ.filter (fun s : Fin 256 => (a6 (ix2 (0 : Fin 1) s) - a7 (ix1 (0 : Fin 1))).toNat = v.val), a8 (ix3 (0 : Fin 1) s d)

/-- The hidden states' gradient at token `s`, entry `d`: the product over the vocabulary. -/
def dhS (a0 : (⟨3, ![1, 256, 50304]⟩ : Shape).Idx → EReal) (a1 : (⟨3, ![1, 256, 393]⟩ : Shape).Idx → EReal)
    (a4 : (⟨2, ![50304, 2560]⟩ : Shape).Idx → BitVec 8) (a5 : (⟨1, ![50304]⟩ : Shape).Idx → EReal) (s : Fin 256) (d : Fin 2560) : EReal :=
  ∑ v : Fin 50304, dlS a0 a1 s v * eeS a4 a5 v d

/-- The row a token's gradient goes to, of its id `w` and the shard's start `s`: the row past the last where the id lies outside. -/
def localWord (w s : BitVec 32) : BitVec 32 :=
  Scalar.select (IntOp.andi (IntOp.cmpi .sge w s) (IntOp.cmpi .slt w (s + 50304#32))) (w - s) 50304#32

/-- Where the shard's end is no overflow, a token's row is `v` exactly when its id less the start is `v`. -/
theorem localWord_iff (w s : BitVec 32) (hs : s.toInt ≤ 2147483647 - 50304) (v : Fin 50304) :
    (Scalar.select (IntOp.cmpi .slt (localWord w s) 0#32) (localWord w s + 50304#32) (localWord w s)).toInt = (v.val : ℤ) ↔ (w - s).toNat = v.val := by
  have hv := v.isLt
  have e : localWord w s = if s.toInt ≤ w.toInt ∧ w.toInt < (s + 50304#32).toInt then w - s else 50304#32 := by
    unfold localWord
    rw [cmpi_sge_eq, cmpi_slt_eq]
    by_cases h1 : s.toInt ≤ w.toInt
    · by_cases h2 : w.toInt < (s + 50304#32).toInt
      · rw [decide_eq_true h1, decide_eq_true h2, if_pos ⟨h1, h2⟩]; rfl
      · rw [decide_eq_true h1, decide_eq_false h2, if_neg fun h => h2 h.2]; rfl
    · rw [decide_eq_false h1, if_neg fun h => h1 h.1]
      generalize decide (w.toInt < (s + 50304#32).toInt) = b
      cases b <;> rfl
  have e5 : (s + 50304#32).toInt = s.toInt + 50304 := by
    rw [BitVec.toInt_eq_toNat_cond, BitVec.toInt_eq_toNat_cond, BitVec.toNat_add, BitVec.toNat_ofNat] at *
    split_ifs at * <;> omega
  have hsub : (w - s).toNat = (2 ^ 32 - s.toNat + w.toNat) % 2 ^ 32 := BitVec.toNat_sub ..
  have hw : w.toInt = if 2 * w.toNat < 2 ^ 32 then (w.toNat : ℤ) else (w.toNat : ℤ) - (2 ^ 32 : ℕ) := BitVec.toInt_eq_toNat_cond w
  have hsI : s.toInt = if 2 * s.toNat < 2 ^ 32 then (s.toNat : ℤ) else (s.toNat : ℤ) - (2 ^ 32 : ℕ) := BitVec.toInt_eq_toNat_cond s
  have := w.isLt
  have := s.isLt
  rw [e]
  by_cases h : s.toInt ≤ w.toInt ∧ w.toInt < (s + 50304#32).toInt
  · rw [if_pos h]
    have hlt : (w - s).toNat < 50304 := by rw [hsub]; split_ifs at hw hsI <;> omega
    have hti : (w - s).toInt = ((w - s).toNat : ℤ) := by rw [BitVec.toInt_eq_toNat_cond, if_pos (by omega)]
    have hn : IntOp.cmpi .slt (w - s) 0#32 = 0#1 := by
      rw [cmpi_slt_eq, hti, decide_eq_false (by rw [show (0#32 : BitVec 32).toInt = 0 from rfl]; omega)]; rfl
    rw [hn]
    show (w - s).toInt = _ ↔ _
    rw [hti]; omega
  · rw [if_neg h]
    have h5 : (Scalar.select (IntOp.cmpi .slt 50304#32 0#32) (50304#32 + 50304#32) (50304#32) : BitVec 32).toInt = 50304 := by decide
    rw [h5]
    constructor
    · intro h'; omega
    · intro h'
      refine (h ?_).elim
      rw [e5]
      rw [hsub] at h'
      split_ifs at hw hsI <;> omega

end Cert.Spec

end
-- ==== Proof.ChainSum.lean ====
/-
  A sum along the list of a tile's tokens is the sum over the tokens of the tile.
-/
module

public import proofs.«01_k».proof.Proof.Chain
public import Mathlib.Algebra.BigOperators.Fin

@[expose] public section

set_option maxRecDepth 16384

noncomputable section

namespace Cert.Chain

/-- The tokens listed for a tile are those of the tile, among those numbered `256 - k` and above. -/
theorem mem_chain {tile : Fin 256 → ℕ} {k j : ℕ} {t : Fin 256} (hk : k ≤ 256) : t ∈ chain tile k j ↔ 256 - k ≤ t.val ∧ tile t = j := by
  refine ⟨fun h => ⟨le_of_mem_chain hk h, tile_of_mem_chain h⟩, fun ⟨h1, h2⟩ => ?_⟩
  induction k with
  | zero => have := t.isLt; omega
  | succ k ih =>
    unfold chain
    by_cases ht : t.val = 255 - k
    · have e : (⟨255 - k, by omega⟩ : Fin 256) = t := Fin.ext ht.symm
      rw [e, if_pos h2]
      exact List.mem_cons_self ..
    · have h3 : 256 - k ≤ t.val := by omega
      have hm := ih (by omega) ⟨h3, h2⟩ h3
      split
      · exact List.mem_cons_of_mem _ hm
      · exact hm

/-- No token is listed twice. -/
theorem nodup_chain (tile : Fin 256 → ℕ) {k : ℕ} (j : ℕ) (hk : k ≤ 256) : (chain tile k j).Nodup := by
  induction k with
  | zero => exact List.nodup_nil
  | succ k ih =>
    unfold chain
    split
    · refine List.nodup_cons.2 ⟨fun h => ?_, ih (by omega)⟩
      have := le_of_mem_chain (by omega) h
      simp only at this
      omega
    · exact ih (by omega)

/-- The sum along the whole list of a tile. -/
theorem sum_chain {M : Type*} [AddCommMonoid M] (tile : Fin 256 → ℕ) (j : ℕ) (f : Fin 256 → M) :
    ((chain tile 256 j).map f).sum = ∑ t ∈ Finset.univ.filter (fun t => tile t = j), f t := by
  rw [← List.sum_toFinset f (nodup_chain tile j (le_refl _))]
  refine Finset.sum_congr (Finset.ext fun t => ?_) fun _ _ => rfl
  rw [List.mem_toFinset, mem_chain (le_refl _), Finset.mem_filter]
  exact ⟨fun h => ⟨Finset.mem_univ _, h.2⟩, fun h => ⟨by omega, h.2⟩⟩

end Cert.Chain

end
-- ==== Proof.Ideal.Blocks.lean ====
/-
  What the region's inputs hold, entry by entry of the program's arguments, and the dequantized blocks of one grid point.
-/
module

public import proofs.«01_k».proof.Proof.Ideal.Run
public import proofs.«01_k».proof.Proof.Spec
public import proofs.«01_k».proof.Proof.ChainSum
public import Idealize.ShloMosaic.Lib.Pointwise
public import Idealize.ShloMosaic.Lib.Claim

@[expose] public section

set_option maxRecDepth 16384

noncomputable section

namespace Cert.KernelIdeal.Hand

open Cert.KernelIdeal Cert.KernelIdeal.Gen Cert.Spec Cert.Chain
open Idealize.ShloMosaic Idealize.ShloMosaic.TcCoe Idealize.ShloMosaic.Tactic Idealize.SL.Sem

variable (m : (ℓ : Loc nD τ sig) → Buf (Elt Ideal) ℓ)

theorem held_ix1 {n : ℕ} (p : Fin n) : Held.ix1 p = Idealize.ShloMosaic.ix1 p := by
  funext a; fin_cases a; rfl
theorem hand_ix2 {n k : ℕ} (p : Fin n) (q : Fin k) : ix2 p q = Idealize.ShloMosaic.ix2 p q := by
  funext a; fin_cases a <;> rfl

/-! ## The host's reshapes -/

theorem V_v0 (c : Dev nD) : V m c main_v0 = shapeCast S256 (m ((c : Thread nD τ).loc main_arg6)) shapeCasts_S1x256_S256 := by
  unfold V; after_results_simp; rfl
theorem V_v1 (c : Dev nD) : V m c main_v1 = shapeCast S256x50304 (m ((c : Thread nD τ).loc main_arg0)) shapeCasts_S1x256x50304_S256x50304 := by
  unfold V; after_results_simp; rfl
theorem V_v2 (c : Dev nD) : V m c main_v2 = shapeCast S256x393 (m ((c : Thread nD τ).loc main_arg1)) shapeCasts_S1x256x393_S256x393 := by
  unfold V; after_results_simp; rfl
theorem V_v3 (c : Dev nD) : V m c main_v3 = shapeCast S256x2560 (m ((c : Thread nD τ).loc main_arg2)) shapeCasts_S1x256x2560_S256x2560 := by
  unfold V; after_results_simp; rfl
theorem V_v4 (c : Dev nD) : V m c main_v4 = shapeCast S256x1 (m ((c : Thread nD τ).loc main_arg3)) shapeCasts_S1x256_S256x1 := by
  unfold V; after_results_simp; rfl
theorem V_v5 (c : Dev nD) : V m c main_v5 = shapeCast S131x1x384 (m ((c : Thread nD τ).loc main_arg5)) shapeCasts_S50304_S131x1x384 := by
  unfold V; after_results_simp; rfl
theorem V_v6 (c : Dev nD) : V m c main_v6 = shapeCast S256x2560 (m ((c : Thread nD τ).loc main_arg8)) shapeCasts_S1x256x2560_S256x2560 := by
  unfold V; after_results_simp; rfl

/-! ## The reshapes, entry by entry -/

variable {α : Type}

theorem cast_v0 (x : S1x256.Idx → α) (s : Fin 256) : shapeCast S256 x shapeCasts_S1x256_S256 (Idealize.ShloMosaic.ix1 s) = x (Idealize.ShloMosaic.ix2 (0 : Fin 1) s) := by pointwise
theorem cast_v1 (x : S1x256x50304.Idx → α) (s : Fin 256) (v : Fin 50304) :
    shapeCast S256x50304 x shapeCasts_S1x256x50304_S256x50304 (Idealize.ShloMosaic.ix2 s v) = x (ix3 (0 : Fin 1) s v) := by pointwise
theorem cast_v2 (x : S1x256x393.Idx → α) (s : Fin 256) (k : Fin 393) :
    shapeCast S256x393 x shapeCasts_S1x256x393_S256x393 (Idealize.ShloMosaic.ix2 s k) = x (ix3 (0 : Fin 1) s k) := by pointwise
theorem cast_v3 (x : S1x256x2560.Idx → α) (s : Fin 256) (d : Fin 2560) :
    shapeCast S256x2560 x shapeCasts_S1x256x2560_S256x2560 (Idealize.ShloMosaic.ix2 s d) = x (ix3 (0 : Fin 1) s d) := by pointwise
theorem cast_v4 (x : S1x256.Idx → α) (s : Fin 256) :
    shapeCast S256x1 x shapeCasts_S1x256_S256x1 (Idealize.ShloMosaic.ix2 s (0 : Fin 1)) = x (Idealize.ShloMosaic.ix2 (0 : Fin 1) s) := by pointwise
theorem cast_v5 (x : S50304.Idx → α) (t : Fin 131) (q : Fin 384) (v : Fin 50304) (hv : v.val = t.val * 384 + q.val) :
    shapeCast S131x1x384 x shapeCasts_S50304_S131x1x384 (ix3 t (0 : Fin 1) q) = x (Idealize.ShloMosaic.ix1 v) := by
  have e : v = ⟨t.val * 384 + q.val, by have := v.isLt; omega⟩ := Fin.ext hv
  rw [e]
  pointwise

/-! ## The arrays of the prologue -/

theorem idsA_apply (c : Dev nD) (s : Fin 256) : idsA m c (Held.ix1 s) = m ((c : Thread nD τ).loc main_arg6) (Idealize.ShloMosaic.ix2 (0 : Fin 1) s) := by
  unfold idsA
  rw [V_v0, held_ix1, cast_v0]
theorem startA_apply (c : Dev nD) : startA m c (Held.ix1 0) = m ((c : Thread nD τ).loc main_arg7) (Idealize.ShloMosaic.ix1 (0 : Fin 1)) := by
  unfold startA
  rw [V_main_arg7, held_ix1]
theorem dlsA_apply (c : Dev nD) (s : Fin 256) (k : Fin 393) :
    dlsA m c (ix2 s k) = m ((c : Thread nD τ).loc main_arg1) (ix3 (0 : Fin 1) s k) := by
  unfold dlsA
  rw [V_v2, hand_ix2, cast_v2]
theorem hcA_apply (c : Dev nD) (s : Fin 256) (d : Fin 2560) :
    hcA m c (Idealize.ShloMosaic.ix2 s d) = m ((c : Thread nD τ).loc main_arg2) (ix3 (0 : Fin 1) s d) := by
  unfold hcA
  rw [V_v3, cast_v3]
theorem hsA_apply (c : Dev nD) (s : Fin 256) :
    hsA m c (Idealize.ShloMosaic.ix2 s (0 : Fin 1)) = m ((c : Thread nD τ).loc main_arg3) (Idealize.ShloMosaic.ix2 (0 : Fin 1) s) := by
  unfold hsA
  rw [V_v4, cast_v4]
theorem dembA_apply (c : Dev nD) (s : Fin 256) (d : Fin 2560) :
    dembA m c (ix2 s d) = m ((c : Thread nD τ).loc main_arg8) (ix3 (0 : Fin 1) s d) := by
  unfold dembA
  rw [V_v6, hand_ix2, cast_v3]

/-! ## The blocks of point `t` -/

/-- Entry `q` of tile `t`. -/
def voc (t : Fin grid0.N) (q : Fin 384) : Fin 50304 := ⟨t.val * 384 + q.val, by have := lt_of_lt_of_eq t.isLt N_0; have := q.isLt; omega⟩

theorem index0_2 : ∀ t : Fin grid0.N, win0_2.index t = ![0, t.val] := by decide +kernel
theorem index0_6 : ∀ t : Fin grid0.N, win0_6.index t = ![t.val, 0] := by decide +kernel
theorem index0_7 : ∀ t : Fin grid0.N, win0_7.index t = ![t.val, 0, 0] := by decide +kernel

theorem idx_at {a t b n : ℕ} (h : a = t) : a * n + b = t * n + b := by subst h; rfl
theorem idx_zero' {a b : ℕ} (h : a = 0) : a + b = b := by subst h; omega

theorem iblk_2_apply (c : Dev nD) (t : Fin grid0.N) (s : Fin 256) (q : Fin 384) :
    iblk m c 2 t (Idealize.ShloMosaic.ix2 s q) = m ((c : Thread nD τ).loc main_arg0) (ix3 (0 : Fin 1) s (voc t q)) := by
  have e : iblk m c 2 t (Idealize.ShloMosaic.ix2 s q) = V m c main_v1 (Idealize.ShloMosaic.ix2 s (voc t q)) := by
    blk_ext [iblk]
    all_goals first | exact idx_zero (congrFun (index0_2 t) 0) | exact idx_at (congrFun (index0_2 t) 1)
  rw [e, V_v1, cast_v1]

theorem iblk_6_apply (c : Dev nD) (t : Fin grid0.N) (q : Fin 384) (d : Fin 2560) :
    iblk m c 6 t (Idealize.ShloMosaic.ix2 q d) = m ((c : Thread nD τ).loc main_arg4) (Idealize.ShloMosaic.ix2 (voc t q) d) := by
  have e : iblk m c 6 t (Idealize.ShloMosaic.ix2 q d) = V m c main_arg4 (Idealize.ShloMosaic.ix2 (voc t q) d) := by
    blk_ext [iblk]
    all_goals first | exact idx_zero (congrFun (index0_6 t) 1) | exact idx_at (congrFun (index0_6 t) 0)
  rw [e, V_main_arg4]

theorem iblk_7_apply (c : Dev nD) (t : Fin grid0.N) (q : Fin 384) :
    iblk m c 7 t (ix3 (0 : Fin 1) (0 : Fin 1) q) = m ((c : Thread nD τ).loc main_arg5) (Idealize.ShloMosaic.ix1 (voc t q)) := by
  have ht := lt_of_lt_of_eq t.isLt N_0
  have e : iblk m c 7 t (ix3 (0 : Fin 1) (0 : Fin 1) q) = V m c main_v5 (ix3 (⟨t.val, ht⟩ : Fin 131) (0 : Fin 1) q) := by
    blk_ext [iblk]
    all_goals first | exact idx_zero (congrFun (index0_7 t) 2) | exact idx_zero' (congrFun (index0_7 t) 1) | exact congrFun (index0_7 t) 0
  rw [e, V_v5, cast_v5 _ ⟨t.val, ht⟩ q (voc t q) rfl]

end Cert.KernelIdeal.Hand

end
-- ==== Proof.Ideal.Value.lean ====
/-
  What the kernel leaves in its two results, entry by entry, at the extended reals.
-/
module

public import proofs.«01_k».proof.Proof.Ideal.Blocks
public import Idealize.ShloMosaic.Lib.Pipeline.ValueKit

@[expose] public section

set_option maxRecDepth 16384

noncomputable section

namespace Cert.KernelIdeal.Hand

open Cert.KernelIdeal Cert.KernelIdeal.Gen Cert.Spec Cert.Chain
open Idealize.ShloMosaic Idealize.ShloMosaic.TcCoe Idealize.ShloMosaic.Tactic Idealize.SL.Sem

variable (m : (ℓ : Loc nD τ sig) → Buf (Elt Ideal) ℓ)

/-! ## The payloads at an entry, of any blocks -/

/-- The product of the dequantized columns with the hidden states, at a row and an entry. -/
theorem deDot_apply (i : grid0.Coords) (C : FVec Ideal S256x384 .fp8e5m2) (dls : FVec Ideal S256x393 .f32) (hh : FVec Ideal S256x2560 .bf16) (q : Fin 384) (d : Fin 2560) :
    deDot i C dls hh (Idealize.ShloMosaic.ix2 q d) = ∑ s : Fin 256, dlB i C dls (Idealize.ShloMosaic.ix2 s q) * hh (Idealize.ShloMosaic.ix2 s d) := by
  unfold deDot
  pointwise

/-- The running sum after a point, at a token and an entry. -/
theorem accOut_apply (i : grid0.Coords) (dls : FVec Ideal S256x393 .f32) (A : FVec Ideal S256x2560 .f32) (C : FVec Ideal S256x384 .fp8e5m2) (e : IVec S384x2560 8)
    (es : FVec Ideal S1x1x384 .f32) (s : Fin 256) (d : Fin 2560) :
    accOut i dls A C e es (Idealize.ShloMosaic.ix2 s d) = A (Idealize.ShloMosaic.ix2 s d)
      + ∑ q : Fin 384, dlB i C dls (Idealize.ShloMosaic.ix2 s q) * es (ix3 (0 : Fin 1) (0 : Fin 1) q) * FloatOps.sitofp (F := Ideal) (φ := .bf16) (e (Idealize.ShloMosaic.ix2 q d)) := by
  unfold accOut dleB k0_pay1
  pointwise

/-- The dequantized hidden states, at a token and an entry. -/
theorem pay5_apply (h : FVec Ideal S256x2560 .fp8e4m3) (hs : FVec Ideal S256x1 .f32) (s : Fin 256) (d : Fin 2560) :
    (k0_pay5 (F := Ideal) h hs (Idealize.ShloMosaic.ix2 s d) : EReal) = h (Idealize.ShloMosaic.ix2 s d) * hs (Idealize.ShloMosaic.ix2 s (0 : Fin 1)) := by
  unfold k0_pay5
  pointwise

/-- The rows added along a list, at an entry. -/
theorem addRows_apply (ids : Fin 256 → BitVec 32) (s0 : BitVec 32) (D : FVec Ideal S256x2560 .f32) (L : List (Fin 256)) (q : Fin 384) (d : Fin 2560) :
    ∀ X : FVec Ideal S384x2560 .f32, addRows ids s0 D X L (Idealize.ShloMosaic.ix2 q d)
      = X (Idealize.ShloMosaic.ix2 q d) + (L.map fun t => if q.val = (ids t - s0).toNat % 384 then D (ix2 t d) else (0 : EReal)).sum := by
  induction L with
  | nil => intro X; exact (add_zero _).symm
  | cons t L ih =>
    intro X
    refine (ih (addRow D X ((ids t - s0).toNat % 384) t)).trans ?_
    rw [List.map_cons, List.sum_cons, ← add_assoc]
    congr 1
    unfold addRow
    show (if q.val = _ then X (Idealize.ShloMosaic.ix2 q d) + D (ix2 t d) else X (Idealize.ShloMosaic.ix2 q d)) = _
    split
    · rfl
    · exact (add_zero _).symm

/-- A cast block of the gradient, at an entry. -/
theorem pay6_apply (g : FVec Ideal S256x2560 .bf16) (s : Fin 256) (d : Fin 2560) :
    (k0_pay6 (F := Ideal) g (Idealize.ShloMosaic.ix2 s d) : EReal) = g (Idealize.ShloMosaic.ix2 s d) := by
  unfold k0_pay6
  pointwise

/-- The cleared running sum, at an entry. -/
theorem pay7_apply (s : Fin 256) (d : Fin 2560) : (k0_pay7 (F := Ideal) (Idealize.ShloMosaic.ix2 s d) : EReal) = 0 := by
  unfold k0_pay7
  pointwise

/-! ## The arguments, by name -/

abbrev A0 (c : Dev nD) : S1x256x50304.Idx → EReal := m ((c : Thread nD τ).loc main_arg0)
abbrev A1 (c : Dev nD) : S1x256x393.Idx → EReal := m ((c : Thread nD τ).loc main_arg1)
abbrev A2 (c : Dev nD) : S1x256x2560.Idx → EReal := m ((c : Thread nD τ).loc main_arg2)
abbrev A3 (c : Dev nD) : S1x256.Idx → EReal := m ((c : Thread nD τ).loc main_arg3)
abbrev A4 (c : Dev nD) : S50304x2560.Idx → BitVec 8 := m ((c : Thread nD τ).loc main_arg4)
abbrev A5 (c : Dev nD) : S50304.Idx → EReal := m ((c : Thread nD τ).loc main_arg5)
abbrev A6 (c : Dev nD) : S1x256.Idx → BitVec 32 := m ((c : Thread nD τ).loc main_arg6)
abbrev A7 (c : Dev nD) : S1.Idx → BitVec 32 := m ((c : Thread nD τ).loc main_arg7)
abbrev A8 (c : Dev nD) : S1x256x2560.Idx → EReal := m ((c : Thread nD τ).loc main_arg8)

/-! ## One point -/

/-- The dequantized columns of point `t`. -/
theorem dlB_apply (c : Dev nD) (t : Fin grid0.N) (s : Fin 256) (q : Fin 384) :
    (dlB (grid0.coords t) (iblk m c 2 t) (dlsA m c) (Idealize.ShloMosaic.ix2 s q) : EReal) = dlS (A0 m c) (A1 m c) s (voc t q) := by
  have ht := lt_of_lt_of_eq t.isLt N_0
  have hk : 3 * (grid0.coords t 0).val + q.val / 128 < 393 := by rw [coord_val]; have := q.isLt; omega
  show @HMul.hMul EReal EReal EReal _ (iblk m c 2 t (Idealize.ShloMosaic.ix2 s q)) (dlsA m c (ix2 s (⟨3 * (grid0.coords t 0).val + q.val / 128, hk⟩ : Fin 393))) = _
  rw [iblk_2_apply, dlsA_apply]
  unfold dlS
  congr 3
  apply Fin.ext
  show 3 * (grid0.coords t 0).val + q.val / 128 = (t.val * 384 + q.val) / 128
  rw [coord_val]
  omega

/-- The hidden states the prologue stores. -/
theorem hh_apply (c : Dev nD) (s : Fin 256) (d : Fin 2560) :
    (k0_pay5 (F := Ideal) (hcA m c) (hsA m c) (Idealize.ShloMosaic.ix2 s d) : EReal) = hhS (A2 m c) (A3 m c) s d := by
  rw [pay5_apply, hcA_apply, hsA_apply]
  rfl

/-- A token's difference as tile and row. -/
theorem hit_iff (w : BitVec 32) (t : Fin grid0.N) (q : Fin 384) : w.toNat / 384 = t.val ∧ q.val = w.toNat % 384 ↔ w.toNat = (voc t q).val := by
  have := q.isLt
  show _ ↔ w.toNat = t.val * 384 + q.val
  omega

/-- The tile point `t` leaves, at a row and an entry. -/
theorem tileAt_apply (c : Dev nD) (t : Fin grid0.N) (q : Fin 384) (d : Fin 2560) :
    (tileAt m c t (Idealize.ShloMosaic.ix2 q d) : EReal) = deS (A0 m c) (A1 m c) (A2 m c) (A3 m c) (A6 m c) (A7 m c) (A8 m c) (voc t q) d := by
  unfold tileAt deOut
  rw [addRows_apply, sum_chain, deDot_apply]
  unfold deS
  congr 1
  · exact Finset.sum_congr rfl fun s _ => by rw [dlB_apply, hh_apply]
  · rw [← Finset.sum_filter, Finset.filter_filter]
    refine Finset.sum_congr (Finset.filter_congr fun s _ => ?_) fun s _ => ?_
    · rw [idsA_apply, startA_apply, coord_val]
      exact hit_iff _ t q
    · rw [hand_ix2, pay6_apply, ← hand_ix2, dembA_apply]

/-- The running sum before point `n`, at a token and an entry: the products of the columns of the points before. -/
theorem accAt_apply (c : Dev nD) (s : Fin 256) (d : Fin 2560) (n : ℕ) (hn : n ≤ 131) :
    (accAt m c n (Idealize.ShloMosaic.ix2 s d) : EReal)
      = ∑ t : Fin n, ∑ q : Fin 384, dlS (A0 m c) (A1 m c) s ⟨t.val * 384 + q.val, by have := t.isLt; have := q.isLt; omega⟩
          * eeS (A4 m c) (A5 m c) ⟨t.val * 384 + q.val, by have := t.isLt; have := q.isLt; omega⟩ d := by
  induction n with
  | zero => rw [Fin.sum_univ_zero]; exact pay7_apply s d
  | succ n ih =>
    have hN : n < grid0.N := by rw [N_0]; omega
    rw [Fin.sum_univ_castSucc, accAt_succ m c ⟨n, hN⟩, accOut_apply]
    congr 1
    · exact ih (by omega)
    · refine Finset.sum_congr rfl fun q _ => ?_
      rw [dlB_apply, iblk_7_apply, iblk_6_apply]
      unfold eeS
      rw [mul_assoc]
      congr 1
      exact mul_comm _ _

/-- The hidden states' gradient, at a token and an entry. -/
theorem dhAt_apply (c : Dev nD) (s : Fin 256) (d : Fin 2560) :
    (dhAt m c (Idealize.ShloMosaic.ix2 s d) : EReal) = dhS (A0 m c) (A1 m c) (A4 m c) (A5 m c) s d := by
  show (accAt m c 131 (Idealize.ShloMosaic.ix2 s d) : EReal) = _
  rw [accAt_apply m c s d 131 (le_refl _)]
  exact Fin.sum_mul_add_fin 131 384 (fun v : Fin 50304 => dlS (A0 m c) (A1 m c) s v * eeS (A4 m c) (A5 m c) v d) (by decide)

/-! ## The two arrays -/

theorem index0_9 : ∀ t : Fin grid0.N, win0_9.index t = ![t.val, 0] := by decide +kernel

/-- The first result's array. -/
theorem arr9 (c : Dev nD) : (dats m 0 c).arrAt 9 (cfg0 (F := Ideal)).N
    = fun y : S50304x2560.Idx => deS (A0 m c) (A1 m c) (A2 m c) (A3 m c) (A6 m c) (A7 m c) (A8 m c) (y 0) (y 1) := by
  refine (dats m 0 c).arrAt_eq_of_covers 9 _ (by decide +kernel) fun t hf y => ?_
  blk_simp
  rw [after0_9]
  have e0 : (win0_9.blk t).view.emb y 0 = voc t (y 0) := Fin.ext ((Pipeline.Window.rect_emb_val win0_9 t y 0).trans (idx_at (congrFun (index0_9 t) 0)))
  have e1 : (win0_9.blk t).view.emb y 1 = y 1 := Fin.ext ((Pipeline.Window.rect_emb_val win0_9 t y 1).trans (idx_zero (congrFun (index0_9 t) 1)))
  rw [e0, e1]
  exact (congrArg (tileAt m c t) (Idealize.ShloMosaic.eq_ix2 y)).trans (tileAt_apply m c t (y 0) (y 1))

/-- The last point. -/
def tLast : Fin grid0.N := ⟨130, by rw [N_0]; omega⟩

/-- The second result's array. -/
theorem arr10 (c : Dev nD) : (dats m 0 c).arrAt 10 (cfg0 (F := Ideal)).N
    = fun y : S256x2560.Idx => dhS (A0 m c) (A1 m c) (A4 m c) (A5 m c) (y 0) (y 1) := by
  refine (dats m 0 c).arrAt_eq_of_after_last 10 tLast (by decide +kernel) _ fun j => ?_
  blk_simp
  rw [after0_10]
  exact (congrArg (dhAt m c) (Idealize.ShloMosaic.eq_ix2 j)).trans (dhAt_apply m c (j 0) (j 1))

end Cert.KernelIdeal.Hand

end
-- ==== Proof.Ref.Tail.lean ====
/-
  The reference's two results as terms of its arguments and of the three arrays its decoding region leaves, at the extended reals.
-/
module

public import proofs.«01_k».proof.Proof.Gen.ReferenceIdeal.Frame
public import Idealize.ShloMosaic.Lib.Claim
public import Idealize.ShloMosaic.PureOps.Ideal

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem

/-- The dequantized logit gradient: codes times their blocks' scales. -/
def dlRef (dlc : FVec Ideal S1x256x50304 .bf16) (dls : FVec Ideal S1x256x393 .f32) : FVec Ideal S1x256x50304 .bf16 :=
  shapeCast S1x256x50304 (mulf (shapeCast S1x256x393x128 dlc shapeCasts_S1x256x50304_S1x256x393x128)
    (broadcastInDim S1x256x393x128 ![0, 1, 2, 3] bcast_S1x256x393x1_S1x256x393x128_0_1_2_3
      (broadcastInDim S1x256x393x1 ![0, 1, 2] bcast_S1x256x393_S1x256x393x1_0_1_2 (truncf .bf16 dls bitsLt_bf16_f32))))
    shapeCasts_S1x256x393x128_S1x256x50304

/-- The dequantized hidden states. -/
def hhRef (hc : FVec Ideal S1x256x2560 .bf16) (hs : FVec Ideal S1x256 .f32) : FVec Ideal S1x256x2560 .bf16 :=
  mulf hc (broadcastInDim S1x256x2560 ![0, 1, 2] bcast_S1x256x1_S1x256x2560_0_1_2
    (broadcastInDim S1x256x1 ![0, 1] bcast_S1x256_S1x256x1_0_1 (truncf .bf16 hs bitsLt_bf16_f32)))

/-- The dequantized embedding. -/
def eeRef (ec : FVec Ideal S50304x2560 .bf16) (es : FVec Ideal S50304 .f32) : FVec Ideal S50304x2560 .bf16 :=
  mulf ec (broadcastInDim S50304x2560 ![0, 1] bcast_S50304x1_S50304x2560_0_1
    (broadcastInDim S50304x1 ![0] bcast_S50304_S50304x1_0 (truncf .bf16 es bitsLt_bf16_f32)))

/-- The row a token's gradient goes to, the row after the last where its id lies outside the shard. -/
def localRef (ids : IVec S1x256 32) (start : IVec S1 32) : IVec S1x256 32 :=
  select
    (andi (cmpi .sge ids (broadcastInDim S1x256 ![] bcast_S_S1x256 (shapeCast S_ start shapeCasts_S1_S_)))
      (cmpi .slt ids (broadcastInDim S1x256 ![] bcast_S_S1x256 (addi (shapeCast S_ start shapeCasts_S1_S_) (constantI S_ 32 50304#32)))))
    (subi ids (broadcastInDim S1x256 ![] bcast_S_S1x256 (shapeCast S_ start shapeCasts_S1_S_)))
    (broadcastInDim S1x256 ![] bcast_S_S1x256 (constantI S_ 32 50304#32))

/-- The same as the scatter's index words: a negative row counted from the end. -/
def rowRef (ids : IVec S1x256 32) (start : IVec S1 32) : IVec S256x1 32 :=
  broadcastInDim S256x1 ![0] bcast_S256_S256x1_0
    (select (cmpi .slt (shapeCast S256 (localRef ids start) shapeCasts_S1x256_S256) (broadcastInDim S256 ![] bcast_S_S256 (constantI S_ 32 0#32)))
      (addi (shapeCast S256 (localRef ids start) shapeCasts_S1x256_S256) (broadcastInDim S256 ![] bcast_S_S256 (constantI S_ 32 50304#32)))
      (shapeCast S256 (localRef ids start) shapeCasts_S1x256_S256))

/-- The embedding's gradient. -/
def deRef (dl : FVec Ideal S1x256x50304 .bf16) (hh : FVec Ideal S1x256x2560 .bf16) (rows : IVec S256x1 32) (demb : FVec Ideal S1x256x2560 .bf16) :
    FVec Ideal S50304x2560 .f32 :=
  Host.scatterAdd scatter_S50304x2560_S256x1_S256x2560_1_0_0_1
    (Host.dotGeneral dot_S1x256x50304_S1x256x2560_S50304x2560_01_01_2_2_n_n none dl hh) rows
    (extf .f32 (shapeCast S256x2560 demb shapeCasts_S1x256x2560_S256x2560) bitsLt_bf16_f32)

/-- The hidden states' gradient. -/
def dhRef (dl : FVec Ideal S1x256x50304 .bf16) (ee : FVec Ideal S50304x2560 .bf16) : FVec Ideal S256x2560 .bf16 :=
  shapeCast S256x2560 (truncf .bf16 (Host.dotGeneral dot_S1x256x50304_S50304x2560_S1x256x2560_2_0_01_1_n_n none dl ee : FVec Ideal S1x256x2560 .f32) bitsLt_bf16_f32)
    shapeCasts_S1x256x2560_S256x2560

/-- What the host's lines leave in the first result, from any contents. -/
theorem after_de (σ : Valuation τ sig (Elt Ideal)) :
    StableHlo.after (List.flatten [hostOps1, hostOps1_1, hostOps1_2]) σ (Proc.devRef .tc main_v31)
      = deRef (dlRef (σ (Proc.devRef .tc main_v0_0)) (σ (Proc.devRef .tc main_arg1)))
          (hhRef (σ (Proc.devRef .tc main_v0_1)) (σ (Proc.devRef .tc main_arg3)))
          (rowRef (σ (Proc.devRef .tc main_arg6)) (σ (Proc.devRef .tc main_arg7)))
          (σ (Proc.devRef .tc main_arg8)) := by
  simp only [hostOps1, hostOps1_1, hostOps1_2, List.flatten_cons, List.flatten_nil, List.append_nil, List.cons_append, List.nil_append,
    StableHlo.after_cons, StableHlo.after_nil]
  after_results_simp
  rfl

/-- What the host's lines leave in the second result, from any contents. -/
theorem after_dh (σ : Valuation τ sig (Elt Ideal)) :
    StableHlo.after (List.flatten [hostOps1, hostOps1_1, hostOps1_2]) σ (Proc.devRef .tc main_v38)
      = dhRef (dlRef (σ (Proc.devRef .tc main_v0_0)) (σ (Proc.devRef .tc main_arg1)))
          (eeRef (σ (Proc.devRef .tc main_v0_2)) (σ (Proc.devRef .tc main_arg5))) := by
  simp only [hostOps1, hostOps1_1, hostOps1_2, List.flatten_cons, List.flatten_nil, List.append_nil, List.cons_append, List.nil_append,
    StableHlo.after_cons, StableHlo.after_nil]
  after_results_simp
  rfl

variable (m : (ℓ : Loc nD τ sig) → Buf (Elt Ideal) ℓ)

theorem arr_inj : Function.Injective (Pipeline.arrRef spec0) := by decide

/-- The buffers the host's lines start from: a window's array as the region leaves it. -/
theorem with_arr (c : Dev nD) (w : Fin cfg0.W) :
    Pipeline.withArrays spec0 c (V0 m c) (fun w => (dats m 0 c).arrAt w cfg0.N) (Proc.devRef .tc (Pipeline.arrRef spec0 w)) = (dats m 0 c).arrAt w cfg0.N :=
  Pipeline.withArrays_arr spec0 arr_inj c (V0 m c) _ w

/-- An array no window stages is as launched. -/
theorem with_rest (c : Dev nD) (b : Ref sig .tc) (hb : ∀ w, Pipeline.arrRef spec0 w ≠ b) :
    Pipeline.withArrays spec0 c (V0 m c) (fun w => (dats m 0 c).arrAt w cfg0.N) (Proc.devRef .tc b) = V0 m c (Proc.devRef .tc b) :=
  Pipeline.withArrays_of_ne spec0 c (V0 m c) _ b hb

/-- The first result. -/
theorem tail_de (c : Dev nD) :
    Pipeline.afterTail₀ cfgs (dats m) 0 (V0 m) [hostOps1, hostOps1_1, hostOps1_2] c main_v31
      = deRef (dlRef ((dats m 0 c).arrAt 3 cfg0.N) (m ((c : Thread nD τ).loc main_arg1)))
          (hhRef ((dats m 0 c).arrAt 4 cfg0.N) (m ((c : Thread nD τ).loc main_arg3)))
          (rowRef (m ((c : Thread nD τ).loc main_arg6)) (m ((c : Thread nD τ).loc main_arg7)))
          (m ((c : Thread nD τ).loc main_arg8)) := by
  refine (after_de _).trans ?_
  have e0 := with_arr m c 3
  have e1 := with_arr m c 4
  have f1 := with_rest m c main_arg1 (by decide)
  have f3 := with_rest m c main_arg3 (by decide)
  have f6 := with_rest m c main_arg6 (by decide)
  have f7 := with_rest m c main_arg7 (by decide)
  have f8 := with_rest m c main_arg8 (by decide)
  exact congr (congr (congr (congrArg deRef (congr (congrArg dlRef e0) f1)) (congr (congrArg hhRef e1) f3)) (congr (congrArg rowRef f6) f7)) f8

/-- The second result. -/
theorem tail_dh (c : Dev nD) :
    Pipeline.afterTail₀ cfgs (dats m) 0 (V0 m) [hostOps1, hostOps1_1, hostOps1_2] c main_v38
      = dhRef (dlRef ((dats m 0 c).arrAt 3 cfg0.N) (m ((c : Thread nD τ).loc main_arg1)))
          (eeRef ((dats m 0 c).arrAt 5 cfg0.N) (m ((c : Thread nD τ).loc main_arg5))) := by
  refine (after_dh _).trans ?_
  have e0 := with_arr m c 3
  have e2 := with_arr m c 5
  have f1 := with_rest m c main_arg1 (by decide)
  have f5 := with_rest m c main_arg5 (by decide)
  exact congr (congrArg dhRef (congr (congrArg dlRef e0) f1)) (congr (congrArg eeRef e2) f5)

end Cert.ReferenceIdeal.Hand

end
-- ==== Proof.Ref.Decode.lean ====
/-
  What the reference's decoding region leaves: the three code arrays' values.
-/
module

public import proofs.«01_k».proof.Proof.Ref.Tail
public import Idealize.ShloMosaic.Lib.Pipeline.ValueKit

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic Idealize.SL.Sem

variable (m : (ℓ : Loc nD τ sig) → Buf (Elt Ideal) ℓ)

theorem idx_zero {a b n : ℕ} (h : a = 0) : a * n + b = b := by subst h; omega

theorem index0_0 : ∀ t : Fin grid0.N, win0_0.index t = ![0, 0, 0] := by decide +kernel
theorem index0_1 : ∀ t : Fin grid0.N, win0_1.index t = ![0, 0, 0] := by decide +kernel
theorem index0_2 : ∀ t : Fin grid0.N, win0_2.index t = ![0, 0] := by decide +kernel

/-- Each input's block is its whole array. -/
theorem iblk_0 (c : Dev nD) (t : Fin cfg0.N) : iblk m c 0 t = m ((c : Thread nD τ).loc main_arg0) := by
  funext x
  blk_ext [iblk, V]
  all_goals first | exact idx_zero (congrFun (index0_0 t) 0) | exact idx_zero (congrFun (index0_0 t) 1) | exact idx_zero (congrFun (index0_0 t) 2) | exact congrFun (index0_0 t) 0
theorem iblk_1 (c : Dev nD) (t : Fin cfg0.N) : iblk m c 1 t = m ((c : Thread nD τ).loc main_arg2) := by
  funext x
  blk_ext [iblk, V]
  all_goals first | exact idx_zero (congrFun (index0_1 t) 0) | exact idx_zero (congrFun (index0_1 t) 1) | exact idx_zero (congrFun (index0_1 t) 2) | exact congrFun (index0_1 t) 0
theorem iblk_2 (c : Dev nD) (t : Fin cfg0.N) : iblk m c 2 t = m ((c : Thread nD τ).loc main_arg4) := by
  funext x
  blk_ext [iblk, V]
  all_goals first | exact idx_zero (congrFun (index0_2 t) 0) | exact idx_zero (congrFun (index0_2 t) 1)

/-- Output 3: the codes of `main_arg0` as bf16 values. -/
theorem arr3 (c : Dev nD) : (dats m 0 c).arrAt 3 cfg0.N = (extf .bf16 (m ((c : Thread nD τ).loc main_arg0)) bitsLt_fp8e5m2_bf16 : FVec Ideal S1x256x50304 .bf16) := by
  refine (dats m 0 c).arrAt_eq_of_after_last 3 t0_0 (by decide +kernel) _ fun j => ?_
  blk_simp
  rw [after0_3]
  unfold out0_3
  rw [View.canon_unit_zero (by funext a; fin_cases a <;> rfl), View.ld_unit_zero (by funext a; fin_cases a <;> rfl), iblk_0]
  rfl
/-- Output 4: the codes of `main_arg2` as bf16 values. -/
theorem arr4 (c : Dev nD) : (dats m 0 c).arrAt 4 cfg0.N = (extf .bf16 (m ((c : Thread nD τ).loc main_arg2)) bitsLt_fp8e4m3_bf16 : FVec Ideal S1x256x2560 .bf16) := by
  refine (dats m 0 c).arrAt_eq_of_after_last 4 t0_0 (by decide +kernel) _ fun j => ?_
  blk_simp
  rw [after0_4]
  unfold out0_4
  rw [View.canon_unit_zero (by funext a; fin_cases a <;> rfl), View.ld_unit_zero (by funext a; fin_cases a <;> rfl), iblk_1]
  rfl
/-- Output 5: the codes of `main_arg4` as bf16 values. -/
theorem arr5 (c : Dev nD) : (dats m 0 c).arrAt 5 cfg0.N = (sitofp .bf16 (m ((c : Thread nD τ).loc main_arg4)) : FVec Ideal S50304x2560 .bf16) := by
  refine (dats m 0 c).arrAt_eq_of_after_last 5 t0_0 (by decide +kernel) _ fun j => ?_
  blk_simp
  rw [after0_5]
  unfold out0_5
  rw [View.canon_unit_zero (by funext a; fin_cases a <;> rfl), View.ld_unit_zero (by funext a; fin_cases a <;> rfl), iblk_2]
  rfl

end Cert.ReferenceIdeal.Hand

end
-- ==== Proof.Ref.Value.lean ====
/-
  The reference's two results, entry by entry.
-/
module

public import proofs.«01_k».proof.Proof.Ref.Decode
public import proofs.«01_k».proof.Proof.Spec
public import Idealize.ShloMosaic.Lib.Routing.OpsPair
public import Idealize.ShloMosaic.Lib.Pointwise

@[expose] public section

set_option maxRecDepth 16384

noncomputable section

namespace Cert.ReferenceIdeal.Hand

open Cert.ReferenceIdeal Cert.ReferenceIdeal.Gen Cert.Spec
open Idealize.ShloMosaic Idealize.ShloMosaic.TcCoe Idealize.ShloMosaic.Routing Idealize.SL.Sem

/-- The dequantized logit gradient at a token and a vocabulary entry. -/
theorem dlRef_apply (a0 : FVec Ideal S1x256x50304 .bf16) (a1 : FVec Ideal S1x256x393 .f32) (s : Fin 256) (v : Fin 50304) :
    dlRef a0 a1 (ix3 (0 : Fin 1) s v) = dlS a0 a1 s v := by
  unfold dlRef dlS
  pointwise

/-- The dequantized hidden state at a token and an entry. -/
theorem hhRef_apply (a2 : FVec Ideal S1x256x2560 .bf16) (a3 : FVec Ideal S1x256 .f32) (s : Fin 256) (d : Fin 2560) :
    hhRef a2 a3 (ix3 (0 : Fin 1) s d) = hhS a2 a3 s d := by
  unfold hhRef hhS
  pointwise

/-- The dequantized embedding at a row and an entry. -/
theorem eeRef_apply (a4 : IVec S50304x2560 8) (a5 : FVec Ideal S50304 .f32) (v : Fin 50304) (d : Fin 2560) :
    eeRef (sitofp .bf16 a4 : FVec Ideal S50304x2560 .bf16) a5 (ix2 v d) = eeS a4 a5 v d := by
  unfold eeRef eeS
  pointwise

/-- The scatter's index word of a token. -/
theorem rowRef_apply (ids : IVec S1x256 32) (start : IVec S1 32) (s : Fin 256) :
    rowRef ids start (ix2 s (0 : Fin 1)) =
      Scalar.select (IntOp.cmpi .slt (localWord (ids (ix2 (0 : Fin 1) s)) (start (ix1 (0 : Fin 1)))) 0#32)
        (localWord (ids (ix2 (0 : Fin 1) s)) (start (ix1 (0 : Fin 1))) + 50304#32) (localWord (ids (ix2 (0 : Fin 1) s)) (start (ix1 (0 : Fin 1)))) := by
  unfold rowRef localRef localWord
  pointwise
  rfl

/-- The scatter's update of a token's entry lands at a row and an entry exactly when the token's index word is the row and the entries agree. -/
theorem lands (rows : IVec S256x1 32) (s : Fin 256) (d' d : Fin 2560) (v : Fin 50304) :
    scatter_S50304x2560_S256x1_S256x2560_1_0_0_1.resultIdx? (ix2 s d') rows = some (ix2 v d) ↔
      (rows (ix2 s (0 : Fin 1))).toInt = (v.val : ℤ) ∧ d' = d := by
  have h0 : scatter_S50304x2560_S256x1_S256x2560_1_0_0_1.start (ix2 s d') rows 0 = (rows (ix2 s (0 : Fin 1))).toInt := by
    unfold ScatterDims.start
    rw [dif_pos (by decide)]
    congr 2
    funext b
    match b with
    | ⟨0, _⟩ => rfl
    | ⟨1, _⟩ => exact Subsingleton.elim (α := Fin 1) _ _
  have h1 : scatter_S50304x2560_S256x1_S256x2560_1_0_0_1.start (ix2 s d') rows 1 = 0 := by
    unfold ScatterDims.start
    rw [dif_neg (by decide)]
  have w0 : scatter_S50304x2560_S256x1_S256x2560_1_0_0_1.window (ix2 s d') 0 = 0 := by
    unfold ScatterDims.window
    rw [dif_neg (by decide)]
  have w1 : scatter_S50304x2560_S256x1_S256x2560_1_0_0_1.window (ix2 s d') 1 = d'.val := by
    unfold ScatterDims.window
    rw [dif_pos (by decide)]
    rfl
  rw [resultIdx?_eq_some]
  refine (Fin.forall_fin_two (p := fun a => scatter_S50304x2560_S256x1_S256x2560_1_0_0_1.start (ix2 s d') rows a
    + (scatter_S50304x2560_S256x1_S256x2560_1_0_0_1.window (ix2 s d') a : ℤ) = ((ix2 v d a).val : ℤ))).trans ?_
  rw [Fin.ext_iff, h0, h1, w0, w1]
  show (rows (ix2 s (0 : Fin 1))).toInt + ((0 : ℕ) : ℤ) = (v.val : ℤ) ∧ (0 : ℤ) + (d'.val : ℤ) = (d.val : ℤ) ↔ _
  have q1 : ∀ z : ℤ, z + ((0 : ℕ) : ℤ) = z := fun z => by omega
  rw [q1]
  exact and_congr Iff.rfl (by omega)

/-- The embedding's gradient at a row and an entry. -/
theorem deRef_apply (a0 : FVec Ideal S1x256x50304 .bf16) (a1 : FVec Ideal S1x256x393 .f32) (a2 : FVec Ideal S1x256x2560 .bf16) (a3 : FVec Ideal S1x256 .f32)
    (a6 : IVec S1x256 32) (a7 : IVec S1 32) (a8 : FVec Ideal S1x256x2560 .bf16) (hs : (a7 (ix1 (0 : Fin 1))).toInt ≤ 2147483647 - 50304)
    (v : Fin 50304) (d : Fin 2560) :
    deRef (dlRef a0 a1) (hhRef a2 a3) (rowRef a6 a7) a8 (ix2 v d) = deS a0 a1 a2 a3 a6 a7 a8 v d := by
  have hdot : (Host.dotGeneral dot_S1x256x50304_S1x256x2560_S50304x2560_01_01_2_2_n_n none (dlRef a0 a1) (hhRef a2 a3) : FVec Ideal S50304x2560 .f32) (ix2 v d)
      = ∑ s : Fin 256, dlS a0 a1 s v * hhS a2 a3 s d := by
    pointwise
    rw [Fin.sum_univ_one]
    exact Finset.sum_congr rfl fun s _ => by rw [dlRef_apply, hhRef_apply]
  have hsc : ∀ x : FVec Ideal S50304x2560 .f32, ∀ u : FVec Ideal S256x2560 .f32,
      Host.scatterAdd scatter_S50304x2560_S256x1_S256x2560_1_0_0_1 x (rowRef a6 a7) u (ix2 v d)
        = x (ix2 v d) + ∑ s ∈ Finset.univ.filter (fun s : Fin 256 => (a6 (ix2 (0 : Fin 1) s) - a7 (ix1 (0 : Fin 1))).toNat = v.val), u (ix2 s d) := by
    intro x u
    show x (ix2 v d) + ∑ j ∈ Finset.univ.filter (fun j => scatter_S50304x2560_S256x1_S256x2560_1_0_0_1.resultIdx? j (rowRef a6 a7) = some (ix2 v d)), u j = _
    congr 1
    rw [Finset.sum_filter, Finset.sum_filter, sum_idx2]
    refine Finset.sum_congr rfl fun s _ => ?_
    rw [Finset.sum_eq_single d]
    · have := (lands (rowRef a6 a7) s d d v).trans (by rw [rowRef_apply, localWord_iff _ _ hs v, and_iff_left rfl])
      simp only [this]
    · intro d' _ hd
      rw [if_neg fun h => hd ((lands _ _ _ _ _).1 h).2]
    · intro h; exact absurd (Finset.mem_univ _) h
  unfold deRef
  rw [hsc, hdot]
  unfold deS
  congr 1
  refine Finset.sum_congr rfl fun s _ => ?_
  pointwise

/-- The hidden states' gradient at a token and an entry. -/
theorem dhRef_apply (a0 : FVec Ideal S1x256x50304 .bf16) (a1 : FVec Ideal S1x256x393 .f32) (a4 : IVec S50304x2560 8) (a5 : FVec Ideal S50304 .f32)
    (s : Fin 256) (d : Fin 2560) :
    dhRef (dlRef a0 a1) (eeRef (sitofp .bf16 a4 : FVec Ideal S50304x2560 .bf16) a5) (ix2 s d) = dhS a0 a1 a4 a5 s d := by
  have hdot : (Host.dotGeneral dot_S1x256x50304_S50304x2560_S1x256x2560_2_0_01_1_n_n none (dlRef a0 a1) (eeRef (sitofp .bf16 a4 : FVec Ideal S50304x2560 .bf16) a5) : FVec Ideal S1x256x2560 .f32) (ix3 (0 : Fin 1) s d)
      = ∑ v : Fin 50304, dlS a0 a1 s v * eeS a4 a5 v d := by
    pointwise
    exact Finset.sum_congr rfl fun v _ => by rw [dlRef_apply, eeRef_apply]
  unfold dhRef dhS
  refine Eq.trans ?_ hdot
  pointwise

variable (m : (ℓ : Loc nD τ sig) → Buf (Elt Ideal) ℓ)

abbrev A0 (c : Dev nD) : S1x256x50304.Idx → EReal := m ((c : Thread nD τ).loc main_arg0)
abbrev A1 (c : Dev nD) : S1x256x393.Idx → EReal := m ((c : Thread nD τ).loc main_arg1)
abbrev A2 (c : Dev nD) : S1x256x2560.Idx → EReal := m ((c : Thread nD τ).loc main_arg2)
abbrev A3 (c : Dev nD) : S1x256.Idx → EReal := m ((c : Thread nD τ).loc main_arg3)
abbrev A4 (c : Dev nD) : S50304x2560.Idx → BitVec 8 := m ((c : Thread nD τ).loc main_arg4)
abbrev A5 (c : Dev nD) : S50304.Idx → EReal := m ((c : Thread nD τ).loc main_arg5)
abbrev A6 (c : Dev nD) : S1x256.Idx → BitVec 32 := m ((c : Thread nD τ).loc main_arg6)
abbrev A7 (c : Dev nD) : S1.Idx → BitVec 32 := m ((c : Thread nD τ).loc main_arg7)
abbrev A8 (c : Dev nD) : S1x256x2560.Idx → EReal := m ((c : Thread nD τ).loc main_arg8)

/-- What the reference leaves in its first result, of its arguments. -/
theorem res_de (c : Dev nD) (hs : (A7 m c (ix1 (0 : Fin 1))).toInt ≤ 2147483647 - 50304) :
    Pipeline.afterTail₀ cfgs (dats m) 0 (V0 m) [hostOps1, hostOps1_1, hostOps1_2] c main_v31
      = fun y : S50304x2560.Idx => deS (A0 m c) (A1 m c) (A2 m c) (A3 m c) (A6 m c) (A7 m c) (A8 m c) (y 0) (y 1) := by
  rw [tail_de, arr3, arr4]
  funext y
  exact (congrArg _ (eq_ix2 y)).trans (deRef_apply _ _ _ _ _ _ _ hs (y 0) (y 1))

/-- What the reference leaves in its second result, of its arguments. -/
theorem res_dh (c : Dev nD) :
    Pipeline.afterTail₀ cfgs (dats m) 0 (V0 m) [hostOps1, hostOps1_1, hostOps1_2] c main_v38
      = fun y : S256x2560.Idx => dhS (A0 m c) (A1 m c) (A4 m c) (A5 m c) (y 0) (y 1) := by
  rw [tail_dh, arr3, arr5]
  funext y
  exact (congrArg _ (eq_ix2 y)).trans (dhRef_apply _ _ _ _ (y 0) (y 1))

end Cert.ReferenceIdeal.Hand

end
-- ==== Proof.lean ====
module

public import proofs.«01_k».proof.Defs
public import proofs.«01_k».proof.Proof.Bits.Run
public import proofs.«01_k».proof.Proof.Ideal.Value
public import proofs.«01_k».proof.Proof.Ref.Value
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_start_fits
public import Idealize.ShloMosaic.Adequacy
public import Idealize.ShloMosaic.Init

@[expose] public section

noncomputable section

namespace Cert.Proof

open Idealize.ShloMosaic Idealize.ShloMosaic.TcCoe Idealize.SL.Sem

/-- The precondition, of the shard's first row: the end of the shard is no overflow. -/
theorem start_le (m : (ℓ : Loc Cert.KernelIdeal.nD Cert.KernelIdeal.τ Cert.KernelIdeal.sig) → Buf (Elt Ideal) ℓ)
    (hpre : Cert.Pre_KernelIdeal_start_fits (hPre_start_fits := Cert.Pre_start_fits.Gen.facts) m) (c : Dev Cert.KernelIdeal.nD) :
    (Cert.KernelIdeal.Hand.A7 m c (ix1 (0 : Fin 1))).toInt ≤ 2147483647 - 50304 := by
  have h : IntOp.cmpi .sle (Cert.KernelIdeal.Hand.A7 m c (ix1 (0 : Fin 1))) 2147433343#32 = 1#1 := congrFun (hpre c) (ix1 (0 : Fin 1))
  have e : IntOp.cmpi .sle (Cert.KernelIdeal.Hand.A7 m c (ix1 (0 : Fin 1))) 2147433343#32
      = BitVec.ofBool (decide ((Cert.KernelIdeal.Hand.A7 m c (ix1 (0 : Fin 1))).toInt ≤ (2147433343#32 : BitVec 32).toInt)) := rfl
  rw [e] at h
  by_cases hle : (Cert.KernelIdeal.Hand.A7 m c (ix1 (0 : Fin 1))).toInt ≤ (2147433343#32 : BitVec 32).toInt
  · have : (2147433343#32 : BitVec 32).toInt = 2147433343 := by decide
    omega
  · rw [decide_eq_false hle] at h
    exact absurd h (by decide)

/-- Kernel and reference leave the same two arrays. -/
theorem same : Cert.algebraic_KernelIdeal_ReferenceIdeal_pre_start_fits (hKernelIdeal := Cert.KernelIdeal.Gen.facts)
    (hReferenceIdeal := Cert.ReferenceIdeal.Gen.facts) (hPre_start_fits := Cert.Pre_start_fits.Gen.facts) := by
  intro m g m' g' hpre hagree
  refine ⟨fun c => fun y : Cert.KernelIdeal.S50304x2560.Idx => Cert.Spec.deS (Cert.KernelIdeal.Hand.A0 m c) (Cert.KernelIdeal.Hand.A1 m c)
      (Cert.KernelIdeal.Hand.A2 m c) (Cert.KernelIdeal.Hand.A3 m c) (Cert.KernelIdeal.Hand.A6 m c) (Cert.KernelIdeal.Hand.A7 m c)
      (Cert.KernelIdeal.Hand.A8 m c) (y 0) (y 1),
    fun c => fun y : Cert.KernelIdeal.S256x2560.Idx => Cert.Spec.dhS (Cert.KernelIdeal.Hand.A0 m c) (Cert.KernelIdeal.Hand.A1 m c)
      (Cert.KernelIdeal.Hand.A4 m c) (Cert.KernelIdeal.Hand.A5 m c) (y 0) (y 1), ?_, ?_⟩
  · refine (θ_run _ _ _).mono (fun r h c => ⟨?_, ?_, h.2.1 c⟩)
      (θ_run_and (Cert.KernelIdeal.Hand.run_main (F := Ideal) m g) (Cert.KernelIdeal.Hand.frame_main (F := Ideal) m g))
    · exact ((h.1.1 c).1 9).trans (Cert.KernelIdeal.Hand.arr9 m c)
    · exact ((h.1.1 c).1 10).trans (Cert.KernelIdeal.Hand.arr10 m c)
  · refine (θ_run _ _ _).mono (fun r h c => ⟨?_, ?_, h.2.1 c⟩)
      (θ_run_and (Cert.ReferenceIdeal.Gen.run_main (F := Ideal) m' g') (Cert.ReferenceIdeal.Gen.frame (F := Ideal) m' g'))
    all_goals
      obtain ⟨h0, h1, h2, h3, h4, h5, h6, h7, h8⟩ := hagree c
      have e0 : Cert.ReferenceIdeal.Hand.A0 m' c = Cert.KernelIdeal.Hand.A0 m c := h0
      have e1 : Cert.ReferenceIdeal.Hand.A1 m' c = Cert.KernelIdeal.Hand.A1 m c := h1
      have e2 : Cert.ReferenceIdeal.Hand.A2 m' c = Cert.KernelIdeal.Hand.A2 m c := h2
      have e3 : Cert.ReferenceIdeal.Hand.A3 m' c = Cert.KernelIdeal.Hand.A3 m c := h3
      have e4 : Cert.ReferenceIdeal.Hand.A4 m' c = Cert.KernelIdeal.Hand.A4 m c := h4
      have e5 : Cert.ReferenceIdeal.Hand.A5 m' c = Cert.KernelIdeal.Hand.A5 m c := h5
      have e6 : Cert.ReferenceIdeal.Hand.A6 m' c = Cert.KernelIdeal.Hand.A6 m c := h6
      have e7 : Cert.ReferenceIdeal.Hand.A7 m' c = Cert.KernelIdeal.Hand.A7 m c := h7
      have e8 : Cert.ReferenceIdeal.Hand.A8 m' c = Cert.KernelIdeal.Hand.A8 m c := h8
    · have hr := Cert.ReferenceIdeal.Hand.res_de m' c (by rw [e7]; exact start_le m hpre c)
      rw [e0, e1, e2, e3, e6, e7, e8] at hr
      exact ((h.1 c).2 Cert.ReferenceIdeal.main_v31 (Pipeline.mem_restRefs_of _ (by decide)
        (by exact (by decide : ∀ w, Pipeline.arrRef Cert.ReferenceIdeal.spec0 w ≠ Cert.ReferenceIdeal.main_v31)))).trans hr
    · have hr := Cert.ReferenceIdeal.Hand.res_dh m' c
      rw [e0, e1, e4, e5] at hr
      exact ((h.1 c).2 Cert.ReferenceIdeal.main_v38 (Pipeline.mem_restRefs_of _ (by decide)
        (by exact (by decide : ∀ w, Pipeline.arrRef Cert.ReferenceIdeal.spec0 w ≠ Cert.ReferenceIdeal.main_v38)))).trans hr

/-- Every claim of the certificate. -/
theorem claim : Cert.Claim := ⟨Cert.Kernel.Gen.facts, Cert.KernelIdeal.Gen.facts, Cert.ReferenceIdeal.Gen.facts, Cert.Pre_start_fits.Gen.facts,
  fun m ρ _ => Cert.Kernel.Hand.frame_main (F := Bits) m ρ,
  fun m ρ _ => Cert.KernelIdeal.Hand.frame_main (F := Ideal) m ρ,
  fun m ρ _ => Cert.KernelIdeal.Hand.frame_main (F := Ideal) m ρ,
  fun m ρ _ => Cert.ReferenceIdeal.Gen.frame (F := Ideal) m ρ,
  fun m ρ _ => Cert.ReferenceIdeal.Gen.frame (F := Ideal) m ρ,
  trivial, same⟩

end Cert.Proof

end
